-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S744x3584 : Shape := ⟨2, ![744, 3584]⟩
abbrev S40x3584 : Shape := ⟨2, ![40, 3584]⟩
abbrev S1 : Shape := ⟨1, ![1]⟩
abbrev S7x741x512 : Shape := ⟨3, ![7, 741, 512]⟩
abbrev S7x1x512 : Shape := ⟨3, ![7, 1, 512]⟩
abbrev S744x512 : Shape := ⟨2, ![744, 512]⟩
abbrev S40x512 : Shape := ⟨2, ![40, 512]⟩
abbrev S1x741x512 : Shape := ⟨3, ![1, 741, 512]⟩
abbrev S1x1x512 : Shape := ⟨3, ![1, 1, 512]⟩
abbrev S4x40x128 : Shape := ⟨3, ![4, 40, 128]⟩
abbrev S4x744x128 : Shape := ⟨3, ![4, 744, 128]⟩
abbrev S40x128 : Shape := ⟨2, ![40, 128]⟩
abbrev S1x40x128 : Shape := ⟨3, ![1, 40, 128]⟩
abbrev S1x38x128 : Shape := ⟨3, ![1, 38, 128]⟩
abbrev S38x128 : Shape := ⟨2, ![38, 128]⟩
abbrev S1x1x128 : Shape := ⟨3, ![1, 1, 128]⟩
abbrev S1x128 : Shape := ⟨2, ![1, 128]⟩
abbrev S1x37x128 : Shape := ⟨3, ![1, 37, 128]⟩
abbrev S37x128 : Shape := ⟨2, ![37, 128]⟩
abbrev S1x36x128 : Shape := ⟨3, ![1, 36, 128]⟩
abbrev S36x128 : Shape := ⟨2, ![36, 128]⟩
abbrev S1x35x128 : Shape := ⟨3, ![1, 35, 128]⟩
abbrev S35x128 : Shape := ⟨2, ![35, 128]⟩
abbrev S1x34x128 : Shape := ⟨3, ![1, 34, 128]⟩
abbrev S34x128 : Shape := ⟨2, ![34, 128]⟩
abbrev S1x33x128 : Shape := ⟨3, ![1, 33, 128]⟩
abbrev S33x128 : Shape := ⟨2, ![33, 128]⟩
abbrev S1x32x128 : Shape := ⟨3, ![1, 32, 128]⟩
abbrev S32x128 : Shape := ⟨2, ![32, 128]⟩
abbrev S1x31x128 : Shape := ⟨3, ![1, 31, 128]⟩
abbrev S31x128 : Shape := ⟨2, ![31, 128]⟩
abbrev S1x30x128 : Shape := ⟨3, ![1, 30, 128]⟩
abbrev S30x128 : Shape := ⟨2, ![30, 128]⟩
abbrev S1x29x128 : Shape := ⟨3, ![1, 29, 128]⟩
abbrev S29x128 : Shape := ⟨2, ![29, 128]⟩
abbrev S1x28x128 : Shape := ⟨3, ![1, 28, 128]⟩
abbrev S28x128 : Shape := ⟨2, ![28, 128]⟩
abbrev S1x27x128 : Shape := ⟨3, ![1, 27, 128]⟩
abbrev S27x128 : Shape := ⟨2, ![27, 128]⟩
abbrev S1x26x128 : Shape := ⟨3, ![1, 26, 128]⟩
abbrev S26x128 : Shape := ⟨2, ![26, 128]⟩
abbrev S1x25x128 : Shape := ⟨3, ![1, 25, 128]⟩
abbrev S25x128 : Shape := ⟨2, ![25, 128]⟩
abbrev S1x24x128 : Shape := ⟨3, ![1, 24, 128]⟩
abbrev S24x128 : Shape := ⟨2, ![24, 128]⟩
abbrev S1x23x128 : Shape := ⟨3, ![1, 23, 128]⟩
abbrev S23x128 : Shape := ⟨2, ![23, 128]⟩
abbrev S1x22x128 : Shape := ⟨3, ![1, 22, 128]⟩
abbrev S22x128 : Shape := ⟨2, ![22, 128]⟩
abbrev S1x21x128 : Shape := ⟨3, ![1, 21, 128]⟩
abbrev S21x128 : Shape := ⟨2, ![21, 128]⟩
abbrev S1x20x128 : Shape := ⟨3, ![1, 20, 128]⟩
abbrev S20x128 : Shape := ⟨2, ![20, 128]⟩
abbrev S1x19x128 : Shape := ⟨3, ![1, 19, 128]⟩
abbrev S19x128 : Shape := ⟨2, ![19, 128]⟩
abbrev S1x18x128 : Shape := ⟨3, ![1, 18, 128]⟩
abbrev S18x128 : Shape := ⟨2, ![18, 128]⟩
abbrev S1x17x128 : Shape := ⟨3, ![1, 17, 128]⟩
abbrev S17x128 : Shape := ⟨2, ![17, 128]⟩
abbrev S1x16x128 : Shape := ⟨3, ![1, 16, 128]⟩
abbrev S16x128 : Shape := ⟨2, ![16, 128]⟩
abbrev S1x15x128 : Shape := ⟨3, ![1, 15, 128]⟩
abbrev S15x128 : Shape := ⟨2, ![15, 128]⟩
abbrev S1x14x128 : Shape := ⟨3, ![1, 14, 128]⟩
abbrev S14x128 : Shape := ⟨2, ![14, 128]⟩
abbrev S1x13x128 : Shape := ⟨3, ![1, 13, 128]⟩
abbrev S13x128 : Shape := ⟨2, ![13, 128]⟩
abbrev S1x12x128 : Shape := ⟨3, ![1, 12, 128]⟩
abbrev S12x128 : Shape := ⟨2, ![12, 128]⟩
abbrev S1x11x128 : Shape := ⟨3, ![1, 11, 128]⟩
abbrev S11x128 : Shape := ⟨2, ![11, 128]⟩
abbrev S1x10x128 : Shape := ⟨3, ![1, 10, 128]⟩
abbrev S10x128 : Shape := ⟨2, ![10, 128]⟩
abbrev S1x9x128 : Shape := ⟨3, ![1, 9, 128]⟩
abbrev S9x128 : Shape := ⟨2, ![9, 128]⟩
abbrev S1x8x128 : Shape := ⟨3, ![1, 8, 128]⟩
abbrev S8x128 : Shape := ⟨2, ![8, 128]⟩
abbrev S1x7x128 : Shape := ⟨3, ![1, 7, 128]⟩
abbrev S7x128 : Shape := ⟨2, ![7, 128]⟩
abbrev S1x6x128 : Shape := ⟨3, ![1, 6, 128]⟩
abbrev S6x128 : Shape := ⟨2, ![6, 128]⟩
abbrev S1x5x128 : Shape := ⟨3, ![1, 5, 128]⟩
abbrev S5x128 : Shape := ⟨2, ![5, 128]⟩
abbrev S1x4x128 : Shape := ⟨3, ![1, 4, 128]⟩
abbrev S4x128 : Shape := ⟨2, ![4, 128]⟩
abbrev S1x3x128 : Shape := ⟨3, ![1, 3, 128]⟩
abbrev S3x128 : Shape := ⟨2, ![3, 128]⟩
abbrev S1x2x128 : Shape := ⟨3, ![1, 2, 128]⟩
abbrev S2x128 : Shape := ⟨2, ![2, 128]⟩
abbrev S39x128 : Shape := ⟨2, ![39, 128]⟩
abbrev S128 : Shape := ⟨1, ![128]⟩

abbrev nBuf : Space → Nat
  | .hbm => 7
  | .vmem => 14
  | .smem => 1
  | _ => 0

abbrev bufTy : (tb : Table) → Fin (tcTables nBuf tb) → BufTy
  | .hbm, ⟨0, _⟩ => ⟨S744x3584, .i32⟩
  | .hbm, ⟨1, _⟩ => ⟨S744x3584, .i32⟩
  | .hbm, ⟨2, _⟩ => ⟨S40x3584, .i32⟩
  | .hbm, ⟨3, _⟩ => ⟨S40x3584, .i32⟩
  | .hbm, ⟨4, _⟩ => ⟨S1, .f32⟩
  | .hbm, ⟨5, _⟩ => ⟨S7x741x512, .f32⟩
  | .hbm, ⟨6, _⟩ => ⟨S7x1x512, .f32⟩
  | .local _ .vmem, ⟨0, _⟩ => ⟨S744x512, .i32⟩
  | .local _ .vmem, ⟨1, _⟩ => ⟨S744x512, .i32⟩
  | .local _ .vmem, ⟨2, _⟩ => ⟨S744x512, .i32⟩
  | .local _ .vmem, ⟨3, _⟩ => ⟨S744x512, .i32⟩
  | .local _ .vmem, ⟨4, _⟩ => ⟨S40x512, .i32⟩
  | .local _ .vmem, ⟨5, _⟩ => ⟨S40x512, .i32⟩
  | .local _ .vmem, ⟨6, _⟩ => ⟨S40x512, .i32⟩
  | .local _ .vmem, ⟨7, _⟩ => ⟨S40x512, .i32⟩
  | .local _ .vmem, ⟨8, _⟩ => ⟨S1x741x512, .f32⟩
  | .local _ .vmem, ⟨9, _⟩ => ⟨S1x741x512, .f32⟩
  | .local _ .vmem, ⟨10, _⟩ => ⟨S1x1x512, .f32⟩
  | .local _ .vmem, ⟨11, _⟩ => ⟨S1x1x512, .f32⟩
  | .local _ .vmem, ⟨12, _⟩ => ⟨S4x40x128, .f32⟩
  | .local _ .vmem, ⟨13, _⟩ => ⟨S4x744x128, .f32⟩
  | .local _ .smem, ⟨0, _⟩ => ⟨S1, .f32⟩
  | _, _ => ⟨S744x3584, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![7], ![false]⟩

@[reducible] def k0_t1_loop : Scf.Loop 32 :=
  let c0_i32 : BitVec 32 := 0#32
  let c92_i32 : BitVec 32 := 92#32
  let v1388 : BitVec 32 := Scalar.addi c0_i32 c92_i32
  let c1_i32 : BitVec 32 := 1#32
  ⟨c0_i32, v1388, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32_1493 : BitVec 32 := 8#32
  let v1746 : BitVec 32 := Scalar.muli arg10 c8_i32_1493
  v1746
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32_1493 : BitVec 32 := 8#32
  let v1746 : BitVec 32 := Scalar.muli arg10 c8_i32_1493
  let v1747 : BitVec 32 := v1746
  let v1748 : Index := Scalar.indexCast v1747
  let c0_1494 : Index := 0#32
  ![v1748.toNat, 0]
def k0_off2 (k0_t1 : Fin k0_t1_loop.trips) : Fin 3 → Nat :=
  let c0_1524 : Index := 0#32
  let c0_i32 : BitVec 32 := 0#32
  let c1_i32 : BitVec 32 := 1#32
  let arg10 : BitVec 32 := Scf.iv c0_i32 c1_i32 k0_t1
  let c8_i32_1493 : BitVec 32 := 8#32
  let v1746 : BitVec 32 := Scalar.muli arg10 c8_i32_1493
  let v1747 : BitVec 32 := v1746
  let v1817 : Index := Scalar.indexCast v1747
  let c0_1525 : Index := 0#32
  ![0, v1817.toNat, 0]
def k0_off3 (k0_t1 : Fin k0_t1_loop.trips) : Fin 3 → Nat :=
  let c0_1526 : Index := 0#32
  let c0_i32 : BitVec 32 := 0#32
  let c1_i32 : BitVec 32 := 1#32
  let arg10 : BitVec 32 := Scf.iv c0_i32 c1_i32 k0_t1
  let c8_i32_1493 : BitVec 32 := 8#32
  let v1746 : BitVec 32 := Scalar.muli arg10 c8_i32_1493
  let v1747 : BitVec 32 := v1746
  let v1821 : Index := Scalar.indexCast v1747
  let c0_1527 : Index := 0#32
  ![0, v1821.toNat, 0]
def k0_off4 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32_1493 : BitVec 32 := 8#32
  let v1746 : BitVec 32 := Scalar.muli arg10 c8_i32_1493
  let v1747 : BitVec 32 := v1746
  let v1826 : Index := Scalar.indexCast v1747
  let c128_1528 : Index := 128#32
  ![v1826.toNat, 128]
def k0_off5 (k0_t1 : Fin k0_t1_loop.trips) : Fin 3 → Nat :=
  let c1_1558 : Index := 1#32
  let c0_i32 : BitVec 32 := 0#32
  let c1_i32 : BitVec 32 := 1#32
  let arg10 : BitVec 32 := Scf.iv c0_i32 c1_i32 k0_t1
  let c8_i32_1493 : BitVec 32 := 8#32
  let v1746 : BitVec 32 := Scalar.muli arg10 c8_i32_1493
  let v1747 : BitVec 32 := v1746
  let v1895 : Index := Scalar.indexCast v1747
  let c0_1559 : Index := 0#32
  ![1, v1895.toNat, 0]
def k0_off6 (k0_t1 : Fin k0_t1_loop.trips) : Fin 3 → Nat :=
  let c0_1560 : Index := 0#32
  let c0_i32 : BitVec 32 := 0#32
  let c1_i32 : BitVec 32 := 1#32
  let arg10 : BitVec 32 := Scf.iv c0_i32 c1_i32 k0_t1
  let c8_i32_1493 : BitVec 32 := 8#32
  let v1746 : BitVec 32 := Scalar.muli arg10 c8_i32_1493
  let v1747 : BitVec 32 := v1746
  let v1899 : Index := Scalar.indexCast v1747
  let c128_1561 : Index := 128#32
  ![0, v1899.toNat, 128]
def k0_off7 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32_1493 : BitVec 32 := 8#32
  let v1746 : BitVec 32 := Scalar.muli arg10 c8_i32_1493
  let v1747 : BitVec 32 := v1746
  let v1904 : Index := Scalar.indexCast v1747
  let c256_1562 : Index := 256#32
  ![v1904.toNat, 256]
def k0_off8 (k0_t1 : Fin k0_t1_loop.trips) : Fin 3 → Nat :=
  let c2_1592 : Index := 2#32
  let c0_i32 : BitVec 32 := 0#32
  let c1_i32 : BitVec 32 := 1#32
  let arg10 : BitVec 32 := Scf.iv c0_i32 c1_i32 k0_t1
  let c8_i32_1493 : BitVec 32 := 8#32
  let v1746 : BitVec 32 := Scalar.muli arg10 c8_i32_1493
  let v1747 : BitVec 32 := v1746
  let v1973 : Index := Scalar.indexCast v1747
  let c0_1593 : Index := 0#32
  ![2, v1973.toNat, 0]
def k0_off9 (k0_t1 : Fin k0_t1_loop.trips) : Fin 3 → Nat :=
  let c0_1594 : Index := 0#32
  let c0_i32 : BitVec 32 := 0#32
  let c1_i32 : BitVec 32 := 1#32
  let arg10 : BitVec 32 := Scf.iv c0_i32 c1_i32 k0_t1
  let c8_i32_1493 : BitVec 32 := 8#32
  let v1746 : BitVec 32 := Scalar.muli arg10 c8_i32_1493
  let v1747 : BitVec 32 := v1746
  let v1977 : Index := Scalar.indexCast v1747
  let c256_1595 : Index := 256#32
  ![0, v1977.toNat, 256]
def k0_off10 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32_1493 : BitVec 32 := 8#32
  let v1746 : BitVec 32 := Scalar.muli arg10 c8_i32_1493
  let v1747 : BitVec 32 := v1746
  let v1982 : Index := Scalar.indexCast v1747
  let c384_1596 : Index := 384#32
  ![v1982.toNat, 384]
def k0_off11 (k0_t1 : Fin k0_t1_loop.trips) : Fin 3 → Nat :=
  let c3_1626 : Index := 3#32
  let c0_i32 : BitVec 32 := 0#32
  let c1_i32 : BitVec 32 := 1#32
  let arg10 : BitVec 32 := Scf.iv c0_i32 c1_i32 k0_t1
  let c8_i32_1493 : BitVec 32 := 8#32
  let v1746 : BitVec 32 := Scalar.muli arg10 c8_i32_1493
  let v1747 : BitVec 32 := v1746
  let v2051 : Index := Scalar.indexCast v1747
  let c0_1627 : Index := 0#32
  ![3, v2051.toNat, 0]
def k0_off12 (k0_t1 : Fin k0_t1_loop.trips) : Fin 3 → Nat :=
  let c0_1628 : Index := 0#32
  let c0_i32 : BitVec 32 := 0#32
  let c1_i32 : BitVec 32 := 1#32
  let arg10 : BitVec 32 := Scf.iv c0_i32 c1_i32 k0_t1
  let c8_i32_1493 : BitVec 32 := 8#32
  let v1746 : BitVec 32 := Scalar.muli arg10 c8_i32_1493
  let v1747 : BitVec 32 := v1746
  let v2055 : Index := Scalar.indexCast v1747
  let c384_1629 : Index := 384#32
  ![0, v2055.toNat, 384]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S744x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S744x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S40x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x741x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S744x3584 : Shape := ⟨2, ![744, 3584]⟩
abbrev S40x3584 : Shape := ⟨2, ![40, 3584]⟩
abbrev S1 : Shape := ⟨1, ![1]⟩
abbrev S4 : Shape := ⟨1, ![4]⟩
abbrev S1x4x1 : Shape := ⟨3, ![1, 4, 1]⟩
abbrev S741 : Shape := ⟨1, ![741]⟩
abbrev S741x3584 : Shape := ⟨2, ![741, 3584]⟩
abbrev S741x1x3584 : Shape := ⟨3, ![741, 1, 3584]⟩
abbrev S741x4x3584 : Shape := ⟨3, ![741, 4, 3584]⟩
abbrev S_ : Shape := ⟨0, ![]⟩
abbrev S741x1 : Shape := ⟨2, ![741, 1]⟩
abbrev S741x7x512 : Shape := ⟨3, ![741, 7, 512]⟩
abbrev S7x741x512 : Shape := ⟨3, ![7, 741, 512]⟩
abbrev S39x3584 : Shape := ⟨2, ![39, 3584]⟩
abbrev S3584 : Shape := ⟨1, ![3584]⟩
abbrev S7x1x512 : Shape := ⟨3, ![7, 1, 512]⟩

abbrev nBuf : Space → Nat
  | .hbm => 101
  | .vmem => 0
  | .smem => 0
  | _ => 0

abbrev bufTy : (tb : Table) → Fin (tcTables nBuf tb) → BufTy
  | .hbm, ⟨0, _⟩ => ⟨S744x3584, .i32⟩
  | .hbm, ⟨1, _⟩ => ⟨S744x3584, .i32⟩
  | .hbm, ⟨2, _⟩ => ⟨S40x3584, .i32⟩
  | .hbm, ⟨3, _⟩ => ⟨S40x3584, .i32⟩
  | .hbm, ⟨4, _⟩ => ⟨S1, .f32⟩
  | .hbm, ⟨5, _⟩ => ⟨S4, .i32⟩
  | .hbm, ⟨6, _⟩ => ⟨S1x4x1, .i32⟩
  | .hbm, ⟨7, _⟩ => ⟨S741, .i32⟩
  | .hbm, ⟨8, _⟩ => ⟨S741, .i1⟩
  | .hbm, ⟨9, _⟩ => ⟨S741, .i32⟩
  | .hbm, ⟨10, _⟩ => ⟨S741, .i1⟩
  | .hbm, ⟨11, _⟩ => ⟨S741x3584, .i32⟩
  | .hbm, ⟨12, _⟩ => ⟨S741x1x3584, .i32⟩
  | .hbm, ⟨13, _⟩ => ⟨S741x4x3584, .i32⟩
  | .hbm, ⟨14, _⟩ => ⟨S741x4x3584, .i32⟩
  | .hbm, ⟨15, _⟩ => ⟨S741x4x3584, .i32⟩
  | .hbm, ⟨16, _⟩ => ⟨S_, .i32⟩
  | .hbm, ⟨17, _⟩ => ⟨S741x4x3584, .i32⟩
  | .hbm, ⟨18, _⟩ => ⟨S741x4x3584, .i32⟩
  | .hbm, ⟨19, _⟩ => ⟨S741x3584, .i32⟩
  | .hbm, ⟨20, _⟩ => ⟨S741x1x3584, .i32⟩
  | .hbm, ⟨21, _⟩ => ⟨S741x4x3584, .i32⟩
  | .hbm, ⟨22, _⟩ => ⟨S741x4x3584, .i32⟩
  | .hbm, ⟨23, _⟩ => ⟨S741x4x3584, .i32⟩
  | .hbm, ⟨24, _⟩ => ⟨S_, .i32⟩
  | .hbm, ⟨25, _⟩ => ⟨S741x4x3584, .i32⟩
  | .hbm, ⟨26, _⟩ => ⟨S741x4x3584, .i32⟩
  | .hbm, ⟨27, _⟩ => ⟨S_, .i32⟩
  | .hbm, ⟨28, _⟩ => ⟨S741x4x3584, .i32⟩
  | .hbm, ⟨29, _⟩ => ⟨S741x4x3584, .i32⟩
  | .hbm, ⟨30, _⟩ => ⟨S_, .i32⟩
  | .hbm, ⟨31, _⟩ => ⟨S741x4x3584, .i32⟩
  | .hbm, ⟨32, _⟩ => ⟨S741x4x3584, .i1⟩
  | .hbm, ⟨33, _⟩ => ⟨S_, .i32⟩
  | .hbm, ⟨34, _⟩ => ⟨S741x4x3584, .i32⟩
  | .hbm, ⟨35, _⟩ => ⟨S741x4x3584, .i32⟩
  | .hbm, ⟨36, _⟩ => ⟨S741x4x3584, .i32⟩
  | .hbm, ⟨37, _⟩ => ⟨S_, .i32⟩
  | .hbm, ⟨38, _⟩ => ⟨S741x4x3584, .i32⟩
  | .hbm, ⟨39, _⟩ => ⟨S741x4x3584, .i32⟩
  | .hbm, ⟨40, _⟩ => ⟨S_, .i32⟩
  | .hbm, ⟨41, _⟩ => ⟨S741x4x3584, .i32⟩
  | .hbm, ⟨42, _⟩ => ⟨S741x4x3584, .i1⟩
  | .hbm, ⟨43, _⟩ => ⟨S_, .i32⟩
  | .hbm, ⟨44, _⟩ => ⟨S741x4x3584, .i32⟩
  | .hbm, ⟨45, _⟩ => ⟨S741x4x3584, .i32⟩
  | .hbm, ⟨46, _⟩ => ⟨S741x4x3584, .i32⟩
  | .hbm, ⟨47, _⟩ => ⟨S741x4x3584, .i32⟩
  | .hbm, ⟨48, _⟩ => ⟨S_, .i32⟩
  | .hbm, ⟨49, _⟩ => ⟨S741x4x3584, .i32⟩
  | .hbm, ⟨50, _⟩ => ⟨S741x4x3584, .i32⟩
  | .hbm, ⟨51, _⟩ => ⟨S_, .i32⟩
  | .hbm, ⟨52, _⟩ => ⟨S741x4x3584, .i32⟩
  | .hbm, ⟨53, _⟩ => ⟨S741x4x3584, .i1⟩
  | .hbm, ⟨54, _⟩ => ⟨S_, .i32⟩
  | .hbm, ⟨55, _⟩ => ⟨S741x4x3584, .i32⟩
  | .hbm, ⟨56, _⟩ => ⟨S741x4x3584, .i32⟩
  | .hbm, ⟨57, _⟩ => ⟨S741x4x3584, .i32⟩
  | .hbm, ⟨58, _⟩ => ⟨S_, .i32⟩
  | .hbm, ⟨59, _⟩ => ⟨S741x4x3584, .i32⟩
  | .hbm, ⟨60, _⟩ => ⟨S741x4x3584, .i32⟩
  | .hbm, ⟨61, _⟩ => ⟨S_, .i32⟩
  | .hbm, ⟨62, _⟩ => ⟨S741x4x3584, .i32⟩
  | .hbm, ⟨63, _⟩ => ⟨S741x4x3584, .i1⟩
  | .hbm, ⟨64, _⟩ => ⟨S_, .i32⟩
  | .hbm, ⟨65, _⟩ => ⟨S741x4x3584, .i32⟩
  | .hbm, ⟨66, _⟩ => ⟨S741x4x3584, .i32⟩
  | .hbm, ⟨67, _⟩ => ⟨S741x4x3584, .i32⟩
  | .hbm, ⟨68, _⟩ => ⟨S741x4x3584, .i32⟩
  | .hbm, ⟨69, _⟩ => ⟨S741x4x3584, .i32⟩
  | .hbm, ⟨70, _⟩ => ⟨S_, .i32⟩
  | .hbm, ⟨71, _⟩ => ⟨S741x3584, .i32⟩
  | .hbm, ⟨72, _⟩ => ⟨S741x3584, .f32⟩
  | .hbm, ⟨73, _⟩ => ⟨S40x3584, .f32⟩
  | .hbm, ⟨74, _⟩ => ⟨S_, .i32⟩
  | .hbm, ⟨75, _⟩ => ⟨S741, .i32⟩
  | .hbm, ⟨76, _⟩ => ⟨S741, .i32⟩
  | .hbm, ⟨77, _⟩ => ⟨S741, .i32⟩
  | .hbm, ⟨78, _⟩ => ⟨S741x1, .i32⟩
  | .hbm, ⟨79, _⟩ => ⟨S741x3584, .f32⟩
  | .hbm, ⟨80, _⟩ => ⟨S741x3584, .f32⟩
  | .hbm, ⟨81, _⟩ => ⟨S_, .i32⟩
  | .hbm, ⟨82, _⟩ => ⟨S741, .i32⟩
  | .hbm, ⟨83, _⟩ => ⟨S741, .i32⟩
  | .hbm, ⟨84, _⟩ => ⟨S741, .i32⟩
  | .hbm, ⟨85, _⟩ => ⟨S741x1, .i32⟩
  | .hbm, ⟨86, _⟩ => ⟨S741x3584, .f32⟩
  | .hbm, ⟨87, _⟩ => ⟨S741x3584, .f32⟩
  | .hbm, ⟨88, _⟩ => ⟨S741x7x512, .f32⟩
  | .hbm, ⟨89, _⟩ => ⟨S7x741x512, .f32⟩
  | .hbm, ⟨90, _⟩ => ⟨S39x3584, .i32⟩
  | .hbm, ⟨91, _⟩ => ⟨S39x3584, .f32⟩
  | .hbm, ⟨92, _⟩ => ⟨S_, .f32⟩
  | .hbm, ⟨93, _⟩ => ⟨S3584, .f32⟩
  | .hbm, ⟨94, _⟩ => ⟨S_, .f32⟩
  | .hbm, ⟨95, _⟩ => ⟨S3584, .f32⟩
  | .hbm, ⟨96, _⟩ => ⟨S3584, .f32⟩
  | .hbm, ⟨97, _⟩ => ⟨S_, .f32⟩
  | .hbm, ⟨98, _⟩ => ⟨S3584, .f32⟩
  | .hbm, ⟨99, _⟩ => ⟨S3584, .f32⟩
  | .hbm, ⟨100, _⟩ => ⟨S7x1x512, .f32⟩
  | _, _ => ⟨S744x3584, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_c_0 : Ref sig .tc := ⟨.hbm, 7, rfl⟩
abbrev main_c_1 : Ref sig .tc := ⟨.hbm, 8, rfl⟩
abbrev main_c_2 : Ref sig .tc := ⟨.hbm, 9, rfl⟩
abbrev main_c_3 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_4 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_5 : Ref sig .tc := ⟨.hbm, 24, rfl⟩
abbrev main_v13 : Ref sig .tc := ⟨.hbm, 25, rfl⟩
abbrev main_v14 : Ref sig .tc := ⟨.hbm, 26, rfl⟩
abbrev main_c_6 : Ref sig .tc := ⟨.hbm, 27, rfl⟩
abbrev main_v15 : Ref sig .tc := ⟨.hbm, 28, rfl⟩
abbrev main_v16 : Ref sig .tc := ⟨.hbm, 29, rfl⟩
abbrev main_c_7 : Ref sig .tc := ⟨.hbm, 30, rfl⟩
abbrev main_v17 : Ref sig .tc := ⟨.hbm, 31, rfl⟩
abbrev main_v18 : Ref sig .tc := ⟨.hbm, 32, rfl⟩
abbrev main_c_8 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_9 : Ref sig .tc := ⟨.hbm, 37, rfl⟩
abbrev main_v22 : Ref sig .tc := ⟨.hbm, 38, rfl⟩
abbrev main_v23 : Ref sig .tc := ⟨.hbm, 39, rfl⟩
abbrev main_c_10 : Ref sig .tc := ⟨.hbm, 40, rfl⟩
abbrev main_v24 : Ref sig .tc := ⟨.hbm, 41, rfl⟩
abbrev main_v25 : Ref sig .tc := ⟨.hbm, 42, rfl⟩
abbrev main_c_11 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_12 : Ref sig .tc := ⟨.hbm, 48, rfl⟩
abbrev main_v30 : Ref sig .tc := ⟨.hbm, 49, rfl⟩
abbrev main_v31 : Ref sig .tc := ⟨.hbm, 50, rfl⟩
abbrev main_c_13 : Ref sig .tc := ⟨.hbm, 51, rfl⟩
abbrev main_v32 : Ref sig .tc := ⟨.hbm, 52, rfl⟩
abbrev main_v33 : Ref sig .tc := ⟨.hbm, 53, rfl⟩
abbrev main_c_14 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_15 : Ref sig .tc := ⟨.hbm, 58, rfl⟩
abbrev main_v37 : Ref sig .tc := ⟨.hbm, 59, rfl⟩
abbrev main_v38 : Ref sig .tc := ⟨.hbm, 60, rfl⟩
abbrev main_c_16 : Ref sig .tc := ⟨.hbm, 61, rfl⟩
abbrev main_v39 : Ref sig .tc := ⟨.hbm, 62, rfl⟩
abbrev main_v40 : Ref sig .tc := ⟨.hbm, 63, rfl⟩
abbrev main_c_17 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_18 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_19 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_20 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_21 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩

abbrev nD : Nat := 1
abbrev τ : Topo := Topo.v7x

variable {F : FTy → Type} [FloatOps F]
-- ==== Proof.KernelRun.lean ====
/- The kernel body run once, on any staging buffers: which pieces its stores leave in each result's buffer.
   The weight-product scratch has three rows that no store reaches and that no result reads; so the run takes that
   scratch's contents at entry as an argument `x9`, and the pieces it finds may mention it. `KernelWeights.lean` and
   `KernelBlock.lean` show that what the results hold does not depend on it. -/
module

public import proofs.«01_k».proof.Proof.Gen.Kernel.Frame
public import proofs.«01_k».proof.Proof.Gen.Kernel.Skeleton
public import proofs.«01_k».proof.Proof.Gen.Kernel.Loops

@[expose] public section

-- membership in a rectangle of production extents (`View.cover_of_tiled`): the elaborator's structural look
-- recurses once per coordinate of the long axes
set_option maxRecDepth 16384

noncomputable section

namespace Cert.Kernel.Score

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One staging buffer of output window 5, through which its contents are stated (`View.read_writes_of_cover`: the
    choice does not matter). -/
abbrev VO0_5 : View sig .tc .vmem S1x741x512 .f32 := (Memref.whole cc0_stg5_0 : Memref sig .tc .vmem S1x741x512 .f32).view
/-- One staging buffer of output window 6, through which its contents are stated (`View.read_writes_of_cover`: the
    choice does not matter). -/
abbrev VO0_6 : View sig .tc .vmem S1x1x512 .f32 := (Memref.whole cc0_stg6_0 : Memref sig .tc .vmem S1x1x512 .f32).view
/-- Each window's current staging memref at point `t`, spelled as the pipeline passes it (`bodyAt0`), and its wholeness. -/
abbrev ms0_0 (t : Fin cfg0.N) : Memref sig .tc .vmem S744x512 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S744x512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S40x512 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S40x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x741x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x512 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S4x40x128 .f32 := Memref.whole cc0_scratch0
abbrev scM0_1 : Memref sig .tc .vmem S4x744x128 .f32 := Memref.whole cc0_scratch1

-- (the run's proof term is large: the definition's epilogue — `abstractNestedProofs` — walks it past the default budget)
set_option maxHeartbeats 3892000 in
/-- The body's run: with the inputs' buffers at `x0 … x4`, the weight-product scratch at `x9` and the other buffers at
    anything, it ends with the inputs as they were, and each buffer it stores into holding the pieces found here
    (`L5`: the pair result, `L6`: the logit result, `LT0`, `LT1`: the two scratch buffers), last store first. -/
noncomputable def kernelRun (c : Dev nD) (i : grid0.Coords) (arg1 : Memref sig .tc .vmem S744x512 .i32) (harg1 : arg1.IsWhole) (arg2 : Memref sig .tc .vmem S744x512 .i32) (harg2 : arg2.IsWhole) (arg3 : Memref sig .tc .vmem S40x512 .i32) (harg3 : arg3.IsWhole) (arg4 : Memref sig .tc .vmem S40x512 .i32) (harg4 : arg4.IsWhole) (arg5 : Memref sig .tc .smem S1 .f32) (harg5 : arg5.IsWhole) (arg6 : Memref sig .tc .vmem S1x741x512 .f32) (harg6 : arg6.IsWhole) (arg7 : Memref sig .tc .vmem S1x1x512 .f32) (harg7 : arg7.IsWhole) (arg8 : Memref sig .tc .vmem S4x40x128 .f32) (harg8 : arg8.IsWhole) (arg9 : Memref sig .tc .vmem S4x744x128 .f32) (harg9 : arg9.IsWhole)
    (x0 : Vec F S744x512 .i32) (x1 : Vec F S744x512 .i32) (x2 : Vec F S40x512 .i32) (x3 : Vec F S40x512 .i32) (x4 : Vec F S1 .f32) (x9 : Vec F S4x744x128 .f32) :
    Σ' (L5 : List (View.Piece (Elt F) S1x741x512 .f32)), Σ' (L6 : List (View.Piece (Elt F) S1x1x512 .f32)), Σ' (LT0 : List (View.Piece (Elt F) S4x40x128 .f32)), { LT1 : List (View.Piece (Elt F) S4x744x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare x9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LT0) ∗ (∃ f, arg9.view.loc (c : Thread nD τ) ↦[arg9.view.set]{fullShare} arg9.view.writes (Elt F) f LT1)) -∗ K ⟨⟩))
          ⊢ wp frame (wpE (defs₀ (F := F)) Variants.none c none) E (cc0_score i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_score_eq_skeleton]; unfold cc0_score_skel
    simp only [k0_part66_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [HS0]; · iexists _; iexact HS0
    iexists _; iexact HS1

end Cert.Kernel.Score

end
-- ==== Proof.KernelSpec.lean ====
/- What the scoring kernel's results hold, entry by entry, as functions of its operands: no buffers, no run, no grid. All of it is stated
   for any arithmetic of the floats, so that the same formulas serve the kernel at words and at ideal values. -/
module

public import proofs.«01_k».proof.Proof.Gen.Kernel.Skeleton
public import Idealize.ShloMosaic.Lib.ValueIdxCore
public import Idealize.ShloMosaic.Lib.ValueLayout

@[expose] public section

set_option maxRecDepth 16384

noncomputable section

namespace Cert.Kernel.Score

open Cert.Kernel Cert.Kernel.Gen Idealize.ShloMosaic Idealize.ShloMosaic.ValueIdx

/-! ## Entries by natural-number coordinates -/

/-- The entry of a matrix at row `r` and column `c`, each taken modulo its extent so that no bound has to be carried. -/
def at2 {α : Type} {m n : ℕ} [NeZero m] [NeZero n] (x : (⟨2, ![m, n]⟩ : Shape).Idx → α) (r c : ℕ) : α :=
  x (ix2 (Fin.ofNat m r) (Fin.ofNat n c))

/-- An entry at an index is the entry at that index's coordinates. -/
theorem eq_at2 {α : Type} {m n : ℕ} [NeZero m] [NeZero n] (x : (⟨2, ![m, n]⟩ : Shape).Idx → α) (i : (⟨2, ![m, n]⟩ : Shape).Idx) :
    x i = at2 x (i 0).val (i 1).val := by
  unfold at2
  congr 1
  rw [eq_ix2 i]
  congr 1 <;> exact Fin.ext (Nat.mod_eq_of_lt (Fin.isLt _)).symm

/-! ## Which two fields a row of pairs joins -/

/-- The first row of the pairs whose first field is `f`: of 39 fields, field `f` is the first of `38 - f` pairs. -/
def rowOf (f : ℕ) : ℕ := f * (77 - f) / 2

/-- The first field of pair row `r`: how many of the fields 1 … 37 begin their pairs at or before row `r`. -/
def fieldA (r : ℕ) : ℕ := (List.range 37).countP fun f => decide (rowOf (f + 1) ≤ r)

/-- The second field of pair row `r`. -/
def fieldB (r : ℕ) : ℕ := r - rowOf (fieldA r) + fieldA r + 1

/-- The `j`-th row of the pairs that begin with field `f` joins `f` and `f + 1 + j`. -/
theorem fields_row : ∀ f < 38, ∀ j < 38 - f, fieldA (rowOf f + j) = f ∧ fieldB (rowOf f + j) = f + 1 + j := by
  decide +kernel

variable {F : FTy → Type} [FloatOps F]

/-! ## The weights, the products of two weights, the dot products, the pair entries -/

/-- The weight of field `f` at column `col`: the float whose word the table holds. -/
def wgt (x2 : Vec F S40x512 .i32) (f col : ℕ) : F .f32 := FloatOps.ofBits .f32 (at2 x2 f col)

/-- The product of the two weights that pair row `r` joins, at column `col`. -/
def prodW (x2 : Vec F S40x512 .i32) (r col : ℕ) : F .f32 :=
  FloatOps.mulf (wgt x2 (fieldB r) col) (wgt x2 (fieldA r) col)

/-- The contents of the weight scratch: chunk `c`, field `f`, lane `l` holds the weight of `f` at column `128 c + l`. -/
def wgtBuf (x2 : Vec F S40x512 .i32) : S4x40x128.Idx → F .f32 :=
  fun y => wgt x2 (y 1).val (128 * (y 0).val + (y 2).val)

/-- The contents of the weight-product scratch in its first 741 rows. -/
def prodBuf (x2 : Vec F S40x512 .i32) : S4x744x128.Idx → F .f32 :=
  fun y => prodW x2 (y 1).val (128 * (y 0).val + (y 2).val)

/-- Half of the offset nibbles of a word, as two signed numbers in one word: the nibbles at bits 0–3 and 16–19 of `v`, less 8 each. -/
def pairNib (v : BitVec 32) : BitVec 32 := (v &&& 983055#32) - 524296#32

/-- The words' dot product as the kernel takes it: the eight nibbles of `p` against those of `q`, two products in each of four
    multiplications. -/
def dotW (p q : BitVec 32) : BitVec 32 :=
  let a := p ^^^ 2290649224#32
  let b' := q ^^^ 2290649224#32
  let b := b' <<< 16 ||| b' >>> 16
  (pairNib a * pairNib b + pairNib (a >>> 4) * pairNib (b >>> 4) + pairNib (a >>> 8) * pairNib (b >>> 8)
    + pairNib (a >>> 12) * pairNib (b >>> 12) + 32768#32).sshiftRight 16

/-- The pair result's entry at row `r` and column `col`. -/
def pairE (x0 x1 : Vec F S744x512 .i32) (x2 : Vec F S40x512 .i32) (r col : ℕ) : F .f32 :=
  FloatOps.mulf (FloatOps.sitofp .f32 (dotW (at2 x0 r col) (at2 x1 r col))) (prodW x2 r col)

/-- The pair result's block. -/
def pairBlk (x0 x1 : Vec F S744x512 .i32) (x2 : Vec F S40x512 .i32) : S1x741x512.Idx → F .f32 :=
  fun y => pairE x0 x1 x2 (y 1).val (y 2).val

/-! ## The logit -/

/-- The running sums of chunk `c` after `k` groups of eight pair rows: lane `l` of sublane `s` has added the rows `8 i + s`. -/
def accE (x0 x1 : Vec F S744x512 .i32) (x2 : Vec F S40x512 .i32) (c : ℕ) : ℕ → S8x128.Idx → F .f32
  | 0 => fun _ => FloatOps.ofBits .f32 0#32
  | k + 1 => fun y => FloatOps.addf (accE x0 x1 x2 c k y) (pairE x0 x1 x2 (8 * k + (y 0).val) (128 * c + (y 1).val))

/-- The five pair rows that are left after 92 groups of eight. -/
def restE (x0 x1 : Vec F S744x512 .i32) (x2 : Vec F S40x512 .i32) (c : ℕ) : S5x128.Idx → F .f32 :=
  fun y => pairE x0 x1 x2 (736 + (y 0).val) (128 * c + (y 1).val)

/-- The linear weights of chunk `c`. -/
def linE (x3 : Vec F S40x512 .i32) (c : ℕ) : S39x128.Idx → F .f32 :=
  fun y => wgt x3 (y 0).val (128 * c + (y 1).val)

end Cert.Kernel.Score

end
-- ==== Proof.KernelWeights.lean ====
/- The two scratch buffers before the loop: the weights, and the products of two weights. Every store into the product scratch is an
   instance of one lemma (`prod_piece`), whichever field and chunk it is for; the rows no store reaches (741 … 743) stay as they were,
   and everything here about a row says that it is below 741. -/
module

public import proofs.«01_k».proof.Proof.KernelRun
public import proofs.«01_k».proof.Proof.KernelSpec

@[expose] public section

set_option maxRecDepth 16384

noncomputable section

namespace Cert.Kernel.Score

open Cert.Kernel Cert.Kernel.Gen Idealize.ShloMosaic Idealize.ShloMosaic.TcCoe Idealize.ShloMosaic.ValueIdx

variable {F : FTy → Type} [FloatOps F]

/-- The weight buffer at an entry whose coordinates are known. -/
theorem wgtBuf_of (x2 : Vec F S40x512 .i32) (i : S4x40x128.Idx) (q r l : ℕ) (h0 : (i 0).val = q) (h1 : (i 1).val = r)
    (h2 : (i 2).val = l) : wgtBuf x2 i = wgt x2 r (128 * q + l) := by
  subst h0 h1 h2; rfl

/-- The product buffer at an entry whose coordinates are known. -/
theorem prodBuf_of (x2 : Vec F S40x512 .i32) (i : S4x744x128.Idx) (q r l : ℕ) (h0 : (i 0).val = q) (h1 : (i 1).val = r)
    (h2 : (i 2).val = l) : prodBuf x2 i = prodW x2 r (128 * q + l) := by
  subst h0 h1 h2; rfl

/-! ## The weight scratch -/

/-- The pieces `L` store weights, each where the scratch should hold it, and reach every row of the chunks below `k`. -/
structure Weights (x2 : Vec F S40x512 .i32) (L : List (View.Piece (Elt F) S4x40x128 .f32)) (k : ℕ) : Prop where
  agree : ∀ p ∈ L, ∀ x : p.1.shape.Idx, p.2 x = wgtBuf x2 (p.1.emb x)
  cover : ∀ y : S4x40x128.Idx, (y 0).val < k → ∃ p ∈ L, y ∈ p.1.set

/-- One chunk more: the store of chunk `k`'s words, read as floats, before the chunks that are already there. -/
theorem Weights.cons {x2 : Vec F S40x512 .i32} {L : List (View.Piece (Elt F) S4x40x128 .f32)} {k : ℕ} (h : Weights x2 L k)
    {arg3 : Memref sig .tc .vmem S40x512 .i32} (harg3 : arg3.IsWhole)
    (inb : ∀ a, (![k, 0, 0] : Fin 3 → ℕ) a + (![1, 40, 128] : Fin 3 → ℕ) a ≤ S4x40x128.size a)
    (inb' : ∀ a, (![0, 128 * k] : Fin 2 → ℕ) a + (![40, 128] : Fin 2 → ℕ) a ≤ S40x512.size a)
    (P : (⟨3, ![1, 40, 128]⟩ : Shape).Idx → F .f32)
    (hP : P = k0_pay33 (arg3.view.readAt (Elt F) (Rect.unit (s := S40x512) ![0, 128 * k] ![40, 128] inb').toLoadRect (harg3.unread x2))) :
    Weights x2 (⟨Rect.unit (s := S4x40x128) ![k, 0, 0] ![1, 40, 128] inb, P⟩ :: L) (k + 1) where
  agree p hp x := by
    rcases List.mem_cons.mp hp with rfl | hp
    · subst hP
      have h512 : 128 * k + 128 ≤ 512 := inb' 1
      have hx0 : (x 0).val = 0 := by have : (x 0).val < 1 := (x 0).isLt; omega
      refine Eq.trans ?_ (wgtBuf_of x2 _ k (x 1).val (x 2).val
        ((show _ = k + 1 * (x 0).val from rfl).trans (by omega)) ((show _ = 0 + 1 * (x 1).val from rfl).trans (by omega))
        ((show _ = 0 + 1 * (x 2).val from rfl).trans (by omega))).symm
      refine (congrArg (k0_pay33 _) (eq_ix3 (n0 := 1) (n1 := 40) (n2 := 128) x)).trans ?_
      unfold k0_pay33
      refine (shapeCast_ab_1ab_apply _ _ _ _ _).trans ?_
      show FloatOps.ofBits .f32 (View.read (Elt F) arg3.view (harg3.unread x2) _) = FloatOps.ofBits .f32 _
      rw [harg3.read_unread, eq_at2 x2]
      exact congrArg (FloatOps.ofBits (F := F) .f32) (congrArg₂ (at2 x2)
        ((show _ = 0 + 1 * (x 1).val from rfl).trans (by omega)) ((show _ = 128 * k + 1 * (x 2).val from rfl).trans (by omega)))
    · exact h.agree p hp x
  cover y hy := by
    by_cases hk : (y 0).val < k
    · obtain ⟨p, hp, hy'⟩ := h.cover y hk
      exact ⟨p, List.mem_cons_of_mem _ hp, hy'⟩
    · refine ⟨_, List.mem_cons_self, ?_⟩
      rw [Rect.mem_set_unit]
      have h1 : (y 1).val < 40 := (y 1).isLt
      have h2 : (y 2).val < 128 := (y 2).isLt
      intro a
      match a with
      | ⟨0, _⟩ => exact ⟨show k ≤ (y 0).val by omega, show (y 0).val < k + 1 by omega⟩
      | ⟨1, _⟩ => exact ⟨Nat.zero_le _, show (y 1).val < 0 + 40 by omega⟩
      | ⟨2, _⟩ => exact ⟨Nat.zero_le _, show (y 2).val < 0 + 128 by omega⟩

/-- No chunk stored yet. -/
theorem Weights.nil (x2 : Vec F S40x512 .i32) : Weights x2 [] 0 where
  agree p hp := absurd hp List.not_mem_nil
  cover y hy := absurd hy (Nat.not_lt_zero _)

section
variable (c : Dev nD) (arg3 : Memref sig .tc .vmem S40x512 .i32) (harg3 : arg3.IsWhole) (x2 : Vec F S40x512 .i32)

theorem weights1 : Weights x2 (kernelRun.sl.HS0_1 c arg3 harg3 x2) 1 := (Weights.nil x2).cons harg3 _ _ _ rfl
theorem weights2 : Weights x2 (kernelRun.sl.HS0_2 c arg3 harg3 x2) 2 := (weights1 c arg3 harg3 x2).cons harg3 _ _ _ rfl
theorem weights3 : Weights x2 (kernelRun.sl.HS0_3 c arg3 harg3 x2) 3 := (weights2 c arg3 harg3 x2).cons harg3 _ _ _ rfl
theorem weights4 : Weights x2 (kernelRun.sl.HS0_4 c arg3 harg3 x2) 4 := (weights3 c arg3 harg3 x2).cons harg3 _ _ _ rfl
end

/-- A load of rows `o … o + n` of chunk `q`, read back from the pieces, is those fields' weights. -/
theorem Weights.load {x2 : Vec F S40x512 .i32} {L : List (View.Piece (Elt F) S4x40x128 .f32)} {k : ℕ} (h : Weights x2 L k)
    (v : View sig .tc .vmem S4x40x128 .f32) (q o n : ℕ) (hq : q < k)
    (inb : ∀ a, (![q, o, 0] : Fin 3 → ℕ) a + (![1, n, 128] : Fin 3 → ℕ) a ≤ S4x40x128.size a) (u : Fin 1) (j : Fin n) (l : Fin 128) :
    v.readCov L (Rect.unit (s := S4x40x128) ![q, o, 0] ![1, n, 128] inb).toLoadRect (ix3 u j l) = wgt x2 (o + j.val) (128 * q + l.val) := by
  have hu : u.val = 0 := by omega
  have e0 : ((Rect.unit (s := S4x40x128) ![q, o, 0] ![1, n, 128] inb).toLoadRect.idx (ix3 u j l) 0).val = q + 1 * u.val := rfl
  exact (View.read_writes_apply_of_pieces v _ (wgtBuf x2) L h.agree _ (h.cover _ (by rw [e0]; omega))).trans
    (wgtBuf_of x2 _ q (o + j.val) l.val (e0.trans (by omega)) ((show _ = o + 1 * j.val from rfl).trans (by omega))
      ((show _ = 0 + 1 * l.val from rfl).trans (by omega)))

/-! ## The weight-product scratch -/

/-- What the store for field `f` and chunk `q` leaves is, row by row, the product of the two weights which that row joins: the row at
    `s + j` joins `f` and `f + 1 + j`. -/
theorem prod_rows (x2 : Vec F S40x512 .i32) (q f s n : ℕ) (hf : f + n = 38) (hs : s = rowOf f)
    (inb : ∀ a, (![q, s, 0] : Fin 3 → ℕ) a + (![1, n, 128] : Fin 3 → ℕ) a ≤ S4x744x128.size a)
    (P : (⟨3, ![1, n, 128]⟩ : Shape).Idx → F .f32)
    (hP : ∀ (u : Fin 1) (j : Fin n) (l : Fin 128),
      P (ix3 u j l) = FloatOps.mulf (wgt x2 (f + 1 + j.val) (128 * q + l.val)) (wgt x2 f (128 * q + l.val)))
    (x : (Rect.unit (s := S4x744x128) ![q, s, 0] ![1, n, 128] inb).shape.Idx) :
    P x = prodBuf x2 ((Rect.unit (s := S4x744x128) ![q, s, 0] ![1, n, 128] inb).emb x) := by
  have hx0 : (x 0).val = 0 := by have : (x 0).val < 1 := (x 0).isLt; omega
  have hx1 : (x 1).val < n := (x 1).isLt
  have hfields := fields_row f (by omega) (x 1).val (by omega)
  refine Eq.trans ?_ (prodBuf_of x2 _ q (s + (x 1).val) (x 2).val
    ((show _ = q + 1 * (x 0).val from rfl).trans (by omega)) ((show _ = s + 1 * (x 1).val from rfl).trans (by omega))
    ((show _ = 0 + 1 * (x 2).val from rfl).trans (by omega))).symm
  refine (congrArg P (eq_ix3 (n0 := 1) (n1 := n) (n2 := 128) x)).trans ((hP (x 0) (x 1) (x 2)).trans ?_)
  subst hs
  unfold prodW
  exact (congrArg₂ (fun a b => FloatOps.mulf (wgt x2 b (128 * q + (x 2).val)) (wgt x2 a (128 * q + (x 2).val)))
    hfields.1 hfields.2).symm

/-- The payload the kernel stores for a field with more than one pair: the rows of the later fields' weights times the field's own. -/
theorem prod_piece {x2 : Vec F S40x512 .i32} {L : List (View.Piece (Elt F) S4x40x128 .f32)} {k : ℕ} (h : Weights x2 L k)
    (v : View sig .tc .vmem S4x40x128 .f32) (q f s n : ℕ) (hq : q < k) (hf : f + n = 38) (hs : s = rowOf f)
    (inb : ∀ a, (![q, s, 0] : Fin 3 → ℕ) a + (![1, n, 128] : Fin 3 → ℕ) a ≤ S4x744x128.size a)
    (inba : ∀ a, (![q, f + 1, 0] : Fin 3 → ℕ) a + (![1, n, 128] : Fin 3 → ℕ) a ≤ S4x40x128.size a)
    (inbb : ∀ a, (![q, f, 0] : Fin 3 → ℕ) a + (![1, 1, 128] : Fin 3 → ℕ) a ≤ S4x40x128.size a)
    (h1 : (⟨3, ![1, n, 128]⟩ : Shape).ShapeCasts ⟨2, ![n, 128]⟩) (h2 : (⟨3, ![1, 1, 128]⟩ : Shape).ShapeCasts ⟨2, ![1, 128]⟩)
    (h3 : (⟨2, ![1, 128]⟩ : Shape).Broadcasts ⟨2, ![n, 128]⟩) (h4 : (⟨2, ![n, 128]⟩ : Shape).ShapeCasts ⟨3, ![1, n, 128]⟩)
    (x : (Rect.unit (s := S4x744x128) ![q, s, 0] ![1, n, 128] inb).shape.Idx) :
    shapeCast ⟨3, ![1, n, 128]⟩ (mulf (F := F) (φ := .f32)
        (shapeCast ⟨2, ![n, 128]⟩ (v.readCov L (Rect.unit (s := S4x40x128) ![q, f + 1, 0] ![1, n, 128] inba).toLoadRect) h1)
        (broadcastTo ⟨2, ![n, 128]⟩
          (shapeCast ⟨2, ![1, 128]⟩ (v.readCov L (Rect.unit (s := S4x40x128) ![q, f, 0] ![1, 1, 128] inbb).toLoadRect) h2) h3)) h4 x
      = prodBuf x2 ((Rect.unit (s := S4x744x128) ![q, s, 0] ![1, n, 128] inb).emb x) := by
  refine prod_rows x2 q f s n hf hs inb _ (fun u j l => ?_) x
  rw [shapeCast_ab_1ab_apply]
  show FloatOps.mulf (shapeCast ⟨2, ![n, 128]⟩ _ h1 (ix2 j l)) (broadcastTo ⟨2, ![n, 128]⟩ _ h3 (ix2 j l)) = _
  rw [broadcastTo_1b_ab_apply, shapeCast_1ab_ab_apply, shapeCast_1ab_ab_apply, h.load v q (f + 1) n hq, h.load v q f 1 hq]
  rfl

/-- The payload for field 37, which has one pair. -/
theorem prod_piece_last {x2 : Vec F S40x512 .i32} {L : List (View.Piece (Elt F) S4x40x128 .f32)} {k : ℕ} (h : Weights x2 L k)
    (v : View sig .tc .vmem S4x40x128 .f32) (q : ℕ) (hq : q < k)
    (inb : ∀ a, (![q, 740, 0] : Fin 3 → ℕ) a + (![1, 1, 128] : Fin 3 → ℕ) a ≤ S4x744x128.size a)
    (inba : ∀ a, (![q, 38, 0] : Fin 3 → ℕ) a + (![1, 1, 128] : Fin 3 → ℕ) a ≤ S4x40x128.size a)
    (inbb : ∀ a, (![q, 37, 0] : Fin 3 → ℕ) a + (![1, 1, 128] : Fin 3 → ℕ) a ≤ S4x40x128.size a)
    (h1 h2 : (⟨3, ![1, 1, 128]⟩ : Shape).ShapeCasts ⟨2, ![1, 128]⟩) (h4 : (⟨2, ![1, 128]⟩ : Shape).ShapeCasts ⟨3, ![1, 1, 128]⟩)
    (x : (Rect.unit (s := S4x744x128) ![q, 740, 0] ![1, 1, 128] inb).shape.Idx) :
    shapeCast ⟨3, ![1, 1, 128]⟩ (mulf (F := F) (φ := .f32)
        (shapeCast ⟨2, ![1, 128]⟩ (v.readCov L (Rect.unit (s := S4x40x128) ![q, 38, 0] ![1, 1, 128] inba).toLoadRect) h1)
        (shapeCast ⟨2, ![1, 128]⟩ (v.readCov L (Rect.unit (s := S4x40x128) ![q, 37, 0] ![1, 1, 128] inbb).toLoadRect) h2)) h4 x
      = prodBuf x2 ((Rect.unit (s := S4x744x128) ![q, 740, 0] ![1, 1, 128] inb).emb x) := by
  refine prod_rows x2 q 37 740 1 rfl (by decide) inb _ (fun u j l => ?_) x
  rw [shapeCast_ab_1ab_apply]
  show FloatOps.mulf (shapeCast ⟨2, ![1, 128]⟩ _ h1 (ix2 j l)) (shapeCast ⟨2, ![1, 128]⟩ _ h2 (ix2 j l)) = _
  rw [shapeCast_1ab_ab_apply, shapeCast_1ab_ab_apply, h.load v q 38 1 hq, h.load v q 37 1 hq]
  have hj : j.val = 0 := by omega
  rw [hj]

end Cert.Kernel.Score

end
-- ==== Proof.KernelProducts.lean ====
/- The weight-product scratch after the straight-line part of the body: every store agrees with one formula, and the stores reach every
   row below 741. -/
module

public import proofs.«01_k».proof.Proof.KernelWeights

@[expose] public section

set_option maxRecDepth 16384

noncomputable section

namespace Cert.Kernel.Score

open Cert.Kernel Cert.Kernel.Gen Idealize.ShloMosaic Idealize.ShloMosaic.TcCoe Idealize.ShloMosaic.ValueIdx

variable {F : FTy → Type} [FloatOps F]

variable (c : Dev nD) (i : grid0.Coords)
  (arg1 : Memref sig .tc .vmem S744x512 .i32) (harg1 : arg1.IsWhole) (arg2 : Memref sig .tc .vmem S744x512 .i32) (harg2 : arg2.IsWhole)
  (arg3 : Memref sig .tc .vmem S40x512 .i32) (harg3 : arg3.IsWhole) (arg4 : Memref sig .tc .vmem S40x512 .i32) (harg4 : arg4.IsWhole)
  (arg5 : Memref sig .tc .smem S1 .f32) (harg5 : arg5.IsWhole) (arg6 : Memref sig .tc .vmem S1x741x512 .f32) (harg6 : arg6.IsWhole)
  (arg7 : Memref sig .tc .vmem S1x1x512 .f32) (harg7 : arg7.IsWhole) (arg8 : Memref sig .tc .vmem S4x40x128 .f32) (harg8 : arg8.IsWhole)
  (arg9 : Memref sig .tc .vmem S4x744x128 .f32) (harg9 : arg9.IsWhole)
  (x0 x1 : Vec F S744x512 .i32) (x2 x3 : Vec F S40x512 .i32) (x4 : Vec F S1 .f32) (x9 : Vec F S4x744x128 .f32)

set_option maxHeartbeats 4000000 in
/-- Every store into the product scratch agrees with the formula. -/
theorem prod_agree : ∀ pc ∈ (kernelRun c i arg1 harg1 arg2 harg2 arg3 harg3 arg4 harg4 arg5 harg5 arg6 harg6 arg7 harg7 arg8 harg8 arg9
    harg9 x0 x1 x2 x3 x4 x9).2.2.2.1, ∀ x, pc.2 x = prodBuf x2 (pc.1.emb x) := by
  refine List.forall_mem_cons.2 ⟨prod_piece_last (weights4 c arg3 harg3 x2) arg8.view 3 (by decide) (by decide) (by decide) (by decide)
    (by decide) (by decide) (by decide), ?_⟩
  iterate 37
    refine List.forall_mem_cons.2 ⟨prod_piece (weights4 c arg3 harg3 x2) arg8.view 3 _ _ _ (by decide) rfl rfl (by decide)
      (by decide) (by decide) (by decide) (by decide) (by decide) (by decide), ?_⟩
  refine List.forall_mem_cons.2 ⟨prod_piece_last (weights3 c arg3 harg3 x2) arg8.view 2 (by decide) (by decide) (by decide) (by decide)
    (by decide) (by decide) (by decide), ?_⟩
  iterate 37
    refine List.forall_mem_cons.2 ⟨prod_piece (weights3 c arg3 harg3 x2) arg8.view 2 _ _ _ (by decide) rfl rfl (by decide)
      (by decide) (by decide) (by decide) (by decide) (by decide) (by decide), ?_⟩
  refine List.forall_mem_cons.2 ⟨prod_piece_last (weights2 c arg3 harg3 x2) arg8.view 1 (by decide) (by decide) (by decide) (by decide)
    (by decide) (by decide) (by decide), ?_⟩
  iterate 37
    refine List.forall_mem_cons.2 ⟨prod_piece (weights2 c arg3 harg3 x2) arg8.view 1 _ _ _ (by decide) rfl rfl (by decide)
      (by decide) (by decide) (by decide) (by decide) (by decide) (by decide), ?_⟩
  refine List.forall_mem_cons.2 ⟨prod_piece_last (weights1 c arg3 harg3 x2) arg8.view 0 (by decide) (by decide) (by decide) (by decide)
    (by decide) (by decide) (by decide), ?_⟩
  iterate 37
    refine List.forall_mem_cons.2 ⟨prod_piece (weights1 c arg3 harg3 x2) arg8.view 0 _ _ _ (by decide) rfl rfl (by decide)
      (by decide) (by decide) (by decide) (by decide) (by decide) (by decide), ?_⟩
  exact List.forall_mem_nil _

/-- Three rows at the foot of each chunk, which no store of the body reaches. -/
def footRows : List (View.Piece (Elt F) S4x744x128 .f32) :=
  [⟨Rect.unit (s := S4x744x128) ![0, 741, 0] ![1, 3, 128] (by decide), fun _ => FloatOps.ofBits .f32 0#32⟩,
   ⟨Rect.unit (s := S4x744x128) ![1, 741, 0] ![1, 3, 128] (by decide), fun _ => FloatOps.ofBits .f32 0#32⟩,
   ⟨Rect.unit (s := S4x744x128) ![2, 741, 0] ![1, 3, 128] (by decide), fun _ => FloatOps.ofBits .f32 0#32⟩,
   ⟨Rect.unit (s := S4x744x128) ![3, 741, 0] ![1, 3, 128] (by decide), fun _ => FloatOps.ofBits .f32 0#32⟩]

/-- What lies in the foot rows has a row number of 741 or more. -/
theorem footRows_row : ∀ p ∈ footRows (F := F), ∀ y ∈ p.1.set, 741 ≤ (y 1).val := by
  intro p hp y hy
  unfold footRows at hp
  simp only [List.mem_cons, List.not_mem_nil, or_false] at hp
  rcases hp with rfl | rfl | rfl | rfl <;> exact ((Rect.mem_set_unit (inb := by decide)).1 hy 1).1

/-- With the foot rows, the stores reach the whole scratch. -/
theorem prod_cover_all (y : S4x744x128.Idx) : ∃ pc ∈ (kernelRun c i arg1 harg1 arg2 harg2 arg3 harg3 arg4 harg4 arg5 harg5 arg6 harg6 arg7
    harg7 arg8 harg8 arg9 harg9 x0 x1 x2 x3 x4 x9).2.2.2.1 ++ footRows, y ∈ pc.1.set :=
  View.cover_of_tiledBy _ ![1, 1, 128] (by sl_kernel_rfl) y

/-- The stores reach every row below 741. -/
theorem prod_cover (y : S4x744x128.Idx) (hy : (y 1).val < 741) : ∃ pc ∈ (kernelRun c i arg1 harg1 arg2 harg2 arg3 harg3 arg4 harg4 arg5
    harg5 arg6 harg6 arg7 harg7 arg8 harg8 arg9 harg9 x0 x1 x2 x3 x4 x9).2.2.2.1, y ∈ pc.1.set := by
  obtain ⟨p, hp, hyp⟩ := prod_cover_all c i arg1 harg1 arg2 harg2 arg3 harg3 arg4 harg4 arg5 harg5 arg6 harg6 arg7 harg7 arg8 harg8 arg9
    harg9 x0 x1 x2 x3 x4 x9 y
  rcases List.mem_append.1 hp with hp | hp
  · exact ⟨p, hp, hyp⟩
  · exact absurd (footRows_row p hp y hyp) (by omega)

/-- A read below row 741, whatever the scratch held before the stores, is the formula. -/
theorem prod_read (v : View sig .tc .vmem S4x744x128 .f32) (f : BufTy.Contents (Elt F) v.ty) (y : S4x744x128.Idx)
    (hy : (y 1).val < 741) :
    v.read (Elt F) (v.writes (Elt F) f (kernelRun c i arg1 harg1 arg2 harg2 arg3 harg3 arg4 harg4 arg5 harg5 arg6 harg6 arg7 harg7 arg8
      harg8 arg9 harg9 x0 x1 x2 x3 x4 x9).2.2.2.1) y = prodBuf x2 y :=
  View.read_writes_apply_of_pieces v f (prodBuf x2) _ (prod_agree c i arg1 harg1 arg2 harg2 arg3 harg3 arg4 harg4 arg5 harg5 arg6 harg6 arg7
    harg7 arg8 harg8 arg9 harg9 x0 x1 x2 x3 x4 x9) y (prod_cover c i arg1 harg1 arg2 harg2 arg3 harg3 arg4 harg4 arg5 harg5 arg6 harg6 arg7
    harg7 arg8 harg8 arg9 harg9 x0 x1 x2 x3 x4 x9 y hy)

end Cert.Kernel.Score

end
-- ==== Proof.KernelTile.lean ====
/- A tile of pair rows: what the kernel computes from eight (or, at the end, five) rows of words and of weight products in one chunk of 128
   lanes. Every trip of the loop makes four such tiles, and the straight-line part after it four more. -/
module

public import proofs.«01_k».proof.Proof.KernelWeights

@[expose] public section

set_option maxRecDepth 16384

noncomputable section

namespace Cert.Kernel.Score

open Cert.Kernel Cert.Kernel.Gen Idealize.ShloMosaic Idealize.ShloMosaic.TcCoe Idealize.ShloMosaic.ValueIdx

variable {F : FTy → Type} [FloatOps F]

/-- The tile of `n` rows: each entry's dot product, as a float, times the entry's weight product. -/
def tile {n : ℕ} (a b : Vec F ⟨2, ![n, 128]⟩ .i32) (w : Vec F ⟨3, ![1, n, 128]⟩ .f32)
    (h : (⟨3, ![1, n, 128]⟩ : Shape).ShapeCasts ⟨2, ![n, 128]⟩) : FVec F ⟨2, ![n, 128]⟩ .f32 :=
  fun y => FloatOps.mulf (FloatOps.sitofp .f32 (dotW (a y) (b y))) (shapeCast ⟨2, ![n, 128]⟩ w h y)

/-- The pieces `L` store pair entries, each where the pair block should hold it, and reach every row below `k`. -/
structure Pairs (x0 x1 : Vec F S744x512 .i32) (x2 : Vec F S40x512 .i32) (L : List (View.Piece (Elt F) S1x741x512 .f32)) (k : ℕ) :
    Prop where
  agree : ∀ p ∈ L, ∀ x : p.1.shape.Idx, p.2 x = pairBlk x0 x1 x2 (p.1.emb x)
  cover : ∀ y : S1x741x512.Idx, (y 1).val < k → ∃ p ∈ L, y ∈ p.1.set

section
variable {arg1 : Memref sig .tc .vmem S744x512 .i32} (harg1 : arg1.IsWhole) {arg2 : Memref sig .tc .vmem S744x512 .i32}
  (harg2 : arg2.IsWhole) {arg9 : Memref sig .tc .vmem S4x744x128 .f32} (x0 x1 : Vec F S744x512 .i32) {x2 : Vec F S40x512 .i32}
  (X9 : BufTy.Contents (Elt F) arg9.view.ty) (h9 : ∀ y : S4x744x128.Idx, (y 1).val < 741 → arg9.view.read (Elt F) X9 y = prodBuf x2 y)
  {n : ℕ} (q r : ℕ) {offa : Fin 2 → ℕ} {offw offo : Fin 3 → ℕ} (ha : offa = ![r, 128 * q]) (hw : offw = ![q, r, 0])
  (ho : offo = ![0, r, 128 * q]) (hr : r + n ≤ 741)
  (inba : ∀ a, offa a + (![n, 128] : Fin 2 → ℕ) a ≤ S744x512.size a)
  (inbw : ∀ a, offw a + (![1, n, 128] : Fin 3 → ℕ) a ≤ S4x744x128.size a)
  (inbo : ∀ a, offo a + (![1, n, 128] : Fin 3 → ℕ) a ≤ S1x741x512.size a)
  (h : (⟨3, ![1, n, 128]⟩ : Shape).ShapeCasts ⟨2, ![n, 128]⟩) (h' : (⟨2, ![n, 128]⟩ : Shape).ShapeCasts ⟨3, ![1, n, 128]⟩)

include h9 ha hw hr in
/-- A tile loaded from rows `r … r + n` and the lanes of chunk `q` holds those rows' pair entries. -/
theorem tile_eq (j : Fin n) (l : Fin 128) :
    tile (arg1.view.readAt (Elt F) (Rect.unit (s := S744x512) offa ![n, 128] inba).toLoadRect (harg1.unread x0))
      (arg2.view.readAt (Elt F) (Rect.unit (s := S744x512) offa ![n, 128] inba).toLoadRect (harg2.unread x1))
      (arg9.view.readAt (Elt F) (Rect.unit (s := S4x744x128) offw ![1, n, 128] inbw).toLoadRect X9) h (ix2 j l)
      = pairE x0 x1 x2 (r + j.val) (128 * q + l.val) := by
  subst ha hw
  unfold tile
  rw [shapeCast_1ab_ab_apply]
  have hj : j.val < n := j.isLt
  have ea : ∀ x : Vec F S744x512 .i32, x ((Rect.unit (s := S744x512) ![r, 128 * q] ![n, 128] inba).toLoadRect.idx (ix2 j l))
      = at2 x (r + j.val) (128 * q + l.val) := fun x => by
    rw [eq_at2 x]
    exact congrArg₂ (at2 x) ((show _ = r + 1 * j.val from rfl).trans (by omega)) ((show _ = 128 * q + 1 * l.val from rfl).trans (by omega))
  have e1 : ((Rect.unit (s := S4x744x128) ![q, r, 0] ![1, n, 128] inbw).toLoadRect.idx (ix3 (0 : Fin 1) j l) 1).val = r + 1 * j.val := rfl
  show FloatOps.mulf (FloatOps.sitofp .f32 (dotW (View.read (Elt F) arg1.view (harg1.unread x0) _)
    (View.read (Elt F) arg2.view (harg2.unread x1) _))) (View.read (Elt F) arg9.view X9 _) = _
  rw [harg1.read_unread, harg2.read_unread, ea x0, ea x1]
  refine congrArg (FloatOps.mulf _) ((h9 _ (by rw [e1]; omega)).trans ?_)
  exact prodBuf_of x2 _ q (r + j.val) l.val ((show _ = q + 1 * 0 from rfl).trans (by omega)) (e1.trans (by omega))
    ((show _ = 0 + 1 * l.val from rfl).trans (by omega))

include h9 ha hw hr in
/-- The running sum after a tile has been added to it. -/
theorem tile_add (acc : FVec F ⟨2, ![n, 128]⟩ .f32) :
    addf acc (tile (arg1.view.readAt (Elt F) (Rect.unit (s := S744x512) offa ![n, 128] inba).toLoadRect (harg1.unread x0))
      (arg2.view.readAt (Elt F) (Rect.unit (s := S744x512) offa ![n, 128] inba).toLoadRect (harg2.unread x1))
      (arg9.view.readAt (Elt F) (Rect.unit (s := S4x744x128) offw ![1, n, 128] inbw).toLoadRect X9) h)
      = fun y => FloatOps.addf (acc y) (pairE x0 x1 x2 (r + (y 0).val) (128 * q + (y 1).val)) := by
  funext y
  refine congrArg (FloatOps.addf (acc y)) ?_
  exact (congrArg _ (eq_ix2 (n0 := n) (n1 := 128) y)).trans (tile_eq harg1 harg2 x0 x1 X9 h9 q r ha hw hr inba inbw h (y 0) (y 1))

include h9 ha hw hr ho in
/-- A tile stored at its rows and lanes agrees with the pair block. -/
theorem tile_piece (x : (Rect.unit (s := S1x741x512) offo ![1, n, 128] inbo).shape.Idx) :
    shapeCast ⟨3, ![1, n, 128]⟩ (tile
      (arg1.view.readAt (Elt F) (Rect.unit (s := S744x512) offa ![n, 128] inba).toLoadRect (harg1.unread x0))
      (arg2.view.readAt (Elt F) (Rect.unit (s := S744x512) offa ![n, 128] inba).toLoadRect (harg2.unread x1))
      (arg9.view.readAt (Elt F) (Rect.unit (s := S4x744x128) offw ![1, n, 128] inbw).toLoadRect X9) h) h' x
      = pairBlk x0 x1 x2 ((Rect.unit (s := S1x741x512) offo ![1, n, 128] inbo).emb x) := by
  subst ho
  refine (congrArg _ (eq_ix3 (n0 := 1) (n1 := n) (n2 := 128) x)).trans ((shapeCast_ab_1ab_apply _ h' _ _ _).trans
    ((tile_eq harg1 harg2 x0 x1 X9 h9 q r ha hw hr inba inbw h (x 1) (x 2)).trans ?_))
  unfold pairBlk
  exact congrArg₂ (pairE x0 x1 x2) ((show _ = r + 1 * (x 1).val from rfl).trans (by omega)).symm
    ((show _ = 128 * q + 1 * (x 2).val from rfl).trans (by omega)).symm

end

/-- Four pieces that hold rows `r … r + n`, one for each chunk of lanes, in front of pieces that reach every row below `r`. -/
theorem Pairs.four {x0 x1 : Vec F S744x512 .i32} {x2 : Vec F S40x512 .i32} {L : List (View.Piece (Elt F) S1x741x512 .f32)} {r : ℕ}
    (hL : Pairs x0 x1 x2 L r) (n : ℕ) {o0 o1 o2 o3 : Fin 3 → ℕ}
    (e0 : o0 = ![0, r, 0]) (e1 : o1 = ![0, r, 128]) (e2 : o2 = ![0, r, 256]) (e3 : o3 = ![0, r, 384])
    (b0 : ∀ a, o0 a + (![1, n, 128] : Fin 3 → ℕ) a ≤ S1x741x512.size a) (b1 : ∀ a, o1 a + (![1, n, 128] : Fin 3 → ℕ) a ≤ S1x741x512.size a)
    (b2 : ∀ a, o2 a + (![1, n, 128] : Fin 3 → ℕ) a ≤ S1x741x512.size a) (b3 : ∀ a, o3 a + (![1, n, 128] : Fin 3 → ℕ) a ≤ S1x741x512.size a)
    (P0 P1 P2 P3 : (⟨3, ![1, n, 128]⟩ : Shape).Idx → F .f32)
    (h0 : ∀ x, P0 x = pairBlk x0 x1 x2 ((Rect.unit (s := S1x741x512) o0 ![1, n, 128] b0).emb x))
    (h1 : ∀ x, P1 x = pairBlk x0 x1 x2 ((Rect.unit (s := S1x741x512) o1 ![1, n, 128] b1).emb x))
    (h2 : ∀ x, P2 x = pairBlk x0 x1 x2 ((Rect.unit (s := S1x741x512) o2 ![1, n, 128] b2).emb x))
    (h3 : ∀ x, P3 x = pairBlk x0 x1 x2 ((Rect.unit (s := S1x741x512) o3 ![1, n, 128] b3).emb x)) :
    Pairs x0 x1 x2 (⟨Rect.unit (s := S1x741x512) o3 ![1, n, 128] b3, P3⟩ :: ⟨Rect.unit (s := S1x741x512) o2 ![1, n, 128] b2, P2⟩
      :: ⟨Rect.unit (s := S1x741x512) o1 ![1, n, 128] b1, P1⟩ :: ⟨Rect.unit (s := S1x741x512) o0 ![1, n, 128] b0, P0⟩ :: L) (r + n) where
  agree := List.forall_mem_cons.2 ⟨h3, List.forall_mem_cons.2 ⟨h2, List.forall_mem_cons.2 ⟨h1, List.forall_mem_cons.2 ⟨h0, hL.agree⟩⟩⟩⟩
  cover y hy := by
    by_cases hlt : (y 1).val < r
    · obtain ⟨p, hp, hyp⟩ := hL.cover y hlt
      exact ⟨p, List.mem_cons_of_mem _ (List.mem_cons_of_mem _ (List.mem_cons_of_mem _ (List.mem_cons_of_mem _ hp))), hyp⟩
    · subst e0 e1 e2 e3
      have hy0 : (y 0).val < 1 := (y 0).isLt
      have hy2 : (y 2).val < 512 := (y 2).isLt
      have hin : ∀ (col : ℕ) (b : ∀ a, (![0, r, col] : Fin 3 → ℕ) a + (![1, n, 128] : Fin 3 → ℕ) a ≤ S1x741x512.size a),
          col ≤ (y 2).val → (y 2).val < col + 128 → y ∈ (Rect.unit (s := S1x741x512) ![0, r, col] ![1, n, 128] b).set := by
        intro col b hc hc'
        rw [Rect.mem_set_unit]
        intro a
        match a with
        | ⟨0, _⟩ => exact ⟨Nat.zero_le _, show (y 0).val < 0 + 1 by omega⟩
        | ⟨1, _⟩ => exact ⟨show r ≤ (y 1).val by omega, hy⟩
        | ⟨2, _⟩ => exact ⟨hc, hc'⟩
      by_cases c1 : (y 2).val < 128
      · exact ⟨_, List.mem_cons_of_mem _ (List.mem_cons_of_mem _ (List.mem_cons_of_mem _ List.mem_cons_self)), hin 0 b0 (by omega) (by omega)⟩
      by_cases c2 : (y 2).val < 256
      · exact ⟨_, List.mem_cons_of_mem _ (List.mem_cons_of_mem _ List.mem_cons_self), hin 128 b1 (by omega) (by omega)⟩
      by_cases c3 : (y 2).val < 384
      · exact ⟨_, List.mem_cons_of_mem _ List.mem_cons_self, hin 256 b2 (by omega) (by omega)⟩
      · exact ⟨_, List.mem_cons_self, hin 384 b3 (by omega) (by omega)⟩

end Cert.Kernel.Score

end
-- ==== Proof.KernelTrips.lean ====
/- The loop: 92 trips, each of which stores eight pair rows in four chunks of lanes and adds them to four running sums. -/
module

public import proofs.«01_k».proof.Proof.KernelTile

@[expose] public section

set_option maxRecDepth 16384

noncomputable section

namespace Cert.Kernel.Score

open Cert.Kernel Cert.Kernel.Gen Idealize.ShloMosaic Idealize.ShloMosaic.TcCoe Idealize.ShloMosaic.ValueIdx

variable {F : FTy → Type} [FloatOps F]

/-- The loop makes 92 trips. -/
theorem trips_eq : k0_t1_loop.trips = 92 := by decide +kernel

section
variable (𝒱 : Variants) (c : Dev nD) (bd : Option 𝒱.V) (i : grid0.Coords)
  (arg1 : Memref sig .tc .vmem S744x512 .i32) (harg1 : arg1.IsWhole) (arg2 : Memref sig .tc .vmem S744x512 .i32) (harg2 : arg2.IsWhole)
  (arg3 : Memref sig .tc .vmem S40x512 .i32) (harg3 : arg3.IsWhole) (arg4 : Memref sig .tc .vmem S40x512 .i32) (harg4 : arg4.IsWhole)
  (arg5 : Memref sig .tc .smem S1 .f32) (harg5 : arg5.IsWhole) (arg6 : Memref sig .tc .vmem S1x741x512 .f32) (harg6 : arg6.IsWhole)
  (arg7 : Memref sig .tc .vmem S1x1x512 .f32) (harg7 : arg7.IsWhole) (arg8 : Memref sig .tc .vmem S4x40x128 .f32) (harg8 : arg8.IsWhole)
  (arg9 : Memref sig .tc .vmem S4x744x128 .f32) (harg9 : arg9.IsWhole)
  (v1384 v1385 v1386 v1387 : FVec F S8x128 .f32) (z : BitVec 32)
  (x0 x1 : Vec F S744x512 .i32) {x2 : Vec F S40x512 .i32}
  (X9 : BufTy.Contents (Elt F) arg9.view.ty) (h9 : ∀ y : S4x744x128.Idx, (y 1).val < 741 → arg9.view.read (Elt F) X9 y = prodBuf x2 y)
include h9

/-- What a trip yields: each running sum with the trip's eight rows of its chunk added. -/
theorem trip_yield (k : Fin k0_t1_loop.trips) (acc : FVec F S8x128 .f32 × FVec F S8x128 .f32 × FVec F S8x128 .f32 × FVec F S8x128 .f32) :
    tripR_k0_t1 𝒱 c bd i arg1 harg1 arg2 harg2 arg3 harg3 arg4 harg4 arg5 harg5 arg6 harg6 arg7 harg7 arg8 harg8 arg9 harg9
      v1384 v1385 v1386 v1387 z (harg1.unread x0) (harg2.unread x1) X9 k acc
    = (fun y => FloatOps.addf (acc.1 y) (pairE x0 x1 x2 (8 * k.val + (y 0).val) (128 * 0 + (y 1).val)),
       fun y => FloatOps.addf (acc.2.1 y) (pairE x0 x1 x2 (8 * k.val + (y 0).val) (128 * 1 + (y 1).val)),
       fun y => FloatOps.addf (acc.2.2.1 y) (pairE x0 x1 x2 (8 * k.val + (y 0).val) (128 * 2 + (y 1).val)),
       fun y => FloatOps.addf (acc.2.2.2 y) (pairE x0 x1 x2 (8 * k.val + (y 0).val) (128 * 3 + (y 1).val))) := by
  have hk : k.val < 92 := trips_eq ▸ k.isLt
  unfold tripR_k0_t1 trip_k0_t1
  refine Prod.ext ?_ (Prod.ext ?_ (Prod.ext ?_ ?_))
  · exact tile_add harg1 harg2 x0 x1 X9 h9 0 (8 * k.val) (k0_off1_eq k) (k0_off2_eq k) (by omega) (k0_off1_inb k) (k0_off2_inb k)
      shapeCasts_S1x8x128_S8x128 acc.1
  · exact tile_add harg1 harg2 x0 x1 X9 h9 1 (8 * k.val) (k0_off4_eq k) (k0_off5_eq k) (by omega) (k0_off4_inb k) (k0_off5_inb k)
      shapeCasts_S1x8x128_S8x128 acc.2.1
  · exact tile_add harg1 harg2 x0 x1 X9 h9 2 (8 * k.val) (k0_off7_eq k) (k0_off8_eq k) (by omega) (k0_off7_inb k) (k0_off8_inb k)
      shapeCasts_S1x8x128_S8x128 acc.2.2.1
  · exact tile_add harg1 harg2 x0 x1 X9 h9 3 (8 * k.val) (k0_off10_eq k) (k0_off11_eq k) (by omega) (k0_off10_inb k) (k0_off11_inb k)
      shapeCasts_S1x8x128_S8x128 acc.2.2.2

/-- What a trip stores: the eight rows, in front of the rows before. -/
theorem trip_stores (k : Fin k0_t1_loop.trips) (acc : FVec F S8x128 .f32 × FVec F S8x128 .f32 × FVec F S8x128 .f32 × FVec F S8x128 .f32)
    {L : List (View.Piece (Elt F) S1x741x512 .f32)} (hL : Pairs x0 x1 x2 L (8 * k.val)) :
    Pairs x0 x1 x2 (tripL_k0_t1 𝒱 c bd i arg1 harg1 arg2 harg2 arg3 harg3 arg4 harg4 arg5 harg5 arg6 harg6 arg7 harg7 arg8 harg8 arg9 harg9
      v1384 v1385 v1386 v1387 z (harg1.unread x0) (harg2.unread x1) X9 k acc ++ L) (8 * k.val + 8) := by
  have hk : k.val < 92 := trips_eq ▸ k.isLt
  unfold tripL_k0_t1 trip_k0_t1
  exact hL.four 8 (k0_off3_eq k) (k0_off6_eq k) (k0_off9_eq k) (k0_off12_eq k) (k0_off3_inb k) (k0_off6_inb k) (k0_off9_inb k)
    (k0_off12_inb k) _ _ _ _
    (tile_piece harg1 harg2 x0 x1 X9 h9 0 (8 * k.val) (k0_off1_eq k) (k0_off2_eq k) (k0_off3_eq k) (by omega) (k0_off1_inb k)
      (k0_off2_inb k) (k0_off3_inb k) shapeCasts_S1x8x128_S8x128 shapeCasts_S8x128_S1x8x128)
    (tile_piece harg1 harg2 x0 x1 X9 h9 1 (8 * k.val) (k0_off4_eq k) (k0_off5_eq k) (k0_off6_eq k) (by omega) (k0_off4_inb k)
      (k0_off5_inb k) (k0_off6_inb k) shapeCasts_S1x8x128_S8x128 shapeCasts_S8x128_S1x8x128)
    (tile_piece harg1 harg2 x0 x1 X9 h9 2 (8 * k.val) (k0_off7_eq k) (k0_off8_eq k) (k0_off9_eq k) (by omega) (k0_off7_inb k)
      (k0_off8_inb k) (k0_off9_inb k) shapeCasts_S1x8x128_S8x128 shapeCasts_S8x128_S1x8x128)
    (tile_piece harg1 harg2 x0 x1 X9 h9 3 (8 * k.val) (k0_off10_eq k) (k0_off11_eq k) (k0_off12_eq k) (by omega) (k0_off10_inb k)
      (k0_off11_inb k) (k0_off12_inb k) shapeCasts_S1x8x128_S8x128 shapeCasts_S8x128_S1x8x128)

/-- The state after `k` trips: the running sums, and the pieces of the rows below `8 k`. -/
theorem st_vals : ∀ k : ℕ, k ≤ 92 →
    (st_k0_t1 𝒱 c bd i arg1 harg1 arg2 harg2 arg3 harg3 arg4 harg4 arg5 harg5 arg6 harg6 arg7 harg7 arg8 harg8 arg9 harg9
      v1384 v1385 v1386 v1387 z (harg1.unread x0) (harg2.unread x1) X9
      (k0_pay227, k0_pay228, k0_pay229, k0_pay230) k).1 = (accE x0 x1 x2 0 k, accE x0 x1 x2 1 k, accE x0 x1 x2 2 k, accE x0 x1 x2 3 k) ∧
    Pairs x0 x1 x2 (st_k0_t1 𝒱 c bd i arg1 harg1 arg2 harg2 arg3 harg3 arg4 harg4 arg5 harg5 arg6 harg6 arg7 harg7 arg8 harg8 arg9 harg9
      v1384 v1385 v1386 v1387 z (harg1.unread x0) (harg2.unread x1) X9
      (k0_pay227, k0_pay228, k0_pay229, k0_pay230) k).2 (8 * k)
  | 0, _ => ⟨rfl, ⟨fun p hp => absurd hp List.not_mem_nil, fun y hy => absurd hy (by omega)⟩⟩
  | k + 1, hk => by
    obtain ⟨hv, hP⟩ := st_vals k (by omega)
    have e := st_k0_t1_succ 𝒱 c bd i arg1 harg1 arg2 harg2 arg3 harg3 arg4 harg4 arg5 harg5 arg6 harg6 arg7 harg7 arg8 harg8 arg9 harg9
      v1384 v1385 v1386 v1387 z (harg1.unread x0) (harg2.unread x1) X9 (k0_pay227, k0_pay228, k0_pay229, k0_pay230)
      ⟨k, by rw [trips_eq]; omega⟩
    rw [show k + 1 = (⟨k, by rw [trips_eq]; omega⟩ : Fin k0_t1_loop.trips).val + 1 from rfl, e]
    refine ⟨?_, trip_stores 𝒱 c bd i arg1 harg1 arg2 harg2 arg3 harg3 arg4 harg4 arg5 harg5 arg6 harg6 arg7 harg7 arg8 harg8 arg9 harg9
      v1384 v1385 v1386 v1387 z x0 x1 X9 h9 ⟨k, by rw [trips_eq]; omega⟩ _ hP⟩
    refine (trip_yield 𝒱 c bd i arg1 harg1 arg2 harg2 arg3 harg3 arg4 harg4 arg5 harg5 arg6 harg6 arg7 harg7 arg8 harg8 arg9 harg9
      v1384 v1385 v1386 v1387 z x0 x1 X9 h9 ⟨k, by rw [trips_eq]; omega⟩ _).trans ?_
    rw [hv]
    rfl

end

end Cert.Kernel.Score

end
-- ==== Proof.KernelBlock.lean ====
/- What the body leaves in the two results' blocks: the pair block and the logit block, as formulas of the inputs' blocks. Neither mentions
   what the scratch buffers held before. -/
module

public import proofs.«01_k».proof.Proof.KernelProducts
public import proofs.«01_k».proof.Proof.KernelTrips

@[expose] public section

set_option maxRecDepth 16384

noncomputable section

namespace Cert.Kernel.Score

open Cert.Kernel Cert.Kernel.Gen Idealize.ShloMosaic Idealize.ShloMosaic.TcCoe Idealize.ShloMosaic.ValueIdx

variable {F : FTy → Type} [FloatOps F]

/-- The logit of chunk `q`: the running sums after the loop added up over the eight sublanes, the five rows that are left, the linear
    weights, and the bias. -/
def logitChunk (x0 x1 : Vec F S744x512 .i32) (x2 x3 : Vec F S40x512 .i32) (x4 : Vec F S1 .f32) (q : ℕ) : S1x1x128.Idx → F .f32 :=
  k0_pay242 (accE x0 x1 x2 q 92) (restE x0 x1 x2 q) (linE x3 q) (x4 (ix1 0))

/-- The logit result's block. -/
def logitBlk (x0 x1 : Vec F S744x512 .i32) (x2 x3 : Vec F S40x512 .i32) (x4 : Vec F S1 .f32) : S1x1x512.Idx → F .f32 :=
  fun y => logitChunk x0 x1 x2 x3 x4 ((y 2).val / 128) (ix3 0 0 (Fin.ofNat 128 (y 2).val))

/-- A chunk's logits, stored at the chunk's lanes, agree with the logit block. -/
theorem logit_piece (x0 x1 : Vec F S744x512 .i32) (x2 x3 : Vec F S40x512 .i32) (x4 : Vec F S1 .f32) (q : ℕ)
    (inb : ∀ a, (![0, 0, 128 * q] : Fin 3 → ℕ) a + (![1, 1, 128] : Fin 3 → ℕ) a ≤ S1x1x512.size a)
    (A : FVec F S8x128 .f32) (R : FVec F S5x128 .f32) (N : FVec F S39x128 .f32) (b : F .f32)
    (hA : A = accE x0 x1 x2 q 92) (hR : R = restE x0 x1 x2 q) (hN : N = linE x3 q) (hb : b = x4 (ix1 0))
    (x : (Rect.unit (s := S1x1x512) ![0, 0, 128 * q] ![1, 1, 128] inb).shape.Idx) :
    k0_pay242 A R N b x = logitBlk x0 x1 x2 x3 x4 ((Rect.unit (s := S1x1x512) ![0, 0, 128 * q] ![1, 1, 128] inb).emb x) := by
  subst hA hR hN hb
  have hx : (x 2).val < 128 := (x 2).isLt
  have e : ((Rect.unit (s := S1x1x512) ![0, 0, 128 * q] ![1, 1, 128] inb).emb x 2).val = 128 * q + 1 * (x 2).val := rfl
  unfold logitBlk
  rw [e, show (128 * q + 1 * (x 2).val) / 128 = q by omega]
  unfold logitChunk
  refine congrArg _ ((eq_ix3 (n0 := 1) (n1 := 1) (n2 := 128) x).trans ?_)
  have h0 : x 0 = (0 : Fin 1) := Subsingleton.elim (α := Fin 1) _ _
  have h1 : x 1 = (0 : Fin 1) := Subsingleton.elim (α := Fin 1) _ _
  have h2 : x 2 = Fin.ofNat 128 (128 * q + 1 * (x 2).val) :=
    Fin.ext (show (x 2).val = (128 * q + 1 * (x 2).val) % 128 by omega)
  exact congr (congrArg₂ ix3 h0 h1) h2

section
variable (c : Dev nD) (i : grid0.Coords)
  (arg1 : Memref sig .tc .vmem S744x512 .i32) (harg1 : arg1.IsWhole) (arg2 : Memref sig .tc .vmem S744x512 .i32) (harg2 : arg2.IsWhole)
  (arg3 : Memref sig .tc .vmem S40x512 .i32) (harg3 : arg3.IsWhole) (arg4 : Memref sig .tc .vmem S40x512 .i32) (harg4 : arg4.IsWhole)
  (arg5 : Memref sig .tc .smem S1 .f32) (harg5 : arg5.IsWhole) (arg6 : Memref sig .tc .vmem S1x741x512 .f32) (harg6 : arg6.IsWhole)
  (arg7 : Memref sig .tc .vmem S1x1x512 .f32) (harg7 : arg7.IsWhole) (arg8 : Memref sig .tc .vmem S4x40x128 .f32) (harg8 : arg8.IsWhole)
  (arg9 : Memref sig .tc .vmem S4x744x128 .f32) (harg9 : arg9.IsWhole)
  (x0 x1 : Vec F S744x512 .i32) (x2 x3 : Vec F S40x512 .i32) (x4 : Vec F S1 .f32) (x9 : Vec F S4x744x128 .f32)

/-- The product scratch with the body's stores over any contents, read below row 741. -/
theorem prods (f : BufTy.Contents (Elt F) arg9.view.ty) (y : S4x744x128.Idx) (hy : (y 1).val < 741) :
    arg9.view.read (Elt F) (arg9.view.writes (Elt F) f (kernelRun c i arg1 harg1 arg2 harg2 arg3 harg3 arg4 harg4 arg5 harg5 arg6 harg6
      arg7 harg7 arg8 harg8 arg9 harg9 x0 x1 x2 x3 x4 x9).2.2.2.1) y = prodBuf x2 y :=
  prod_read c i arg1 harg1 arg2 harg2 arg3 harg3 arg4 harg4 arg5 harg5 arg6 harg6 arg7 harg7 arg8 harg8 arg9 harg9 x0 x1 x2 x3 x4 x9
    arg9.view f y hy

/-- The loop's state after its last trip. -/
theorem st_end (k : ℕ) (hk : k = 92) :
    (st_k0_t1 Variants.none c none i arg1 harg1 arg2 harg2 arg3 harg3 arg4 harg4 arg5 harg5 arg6 harg6 arg7 harg7 arg8 harg8 arg9 harg9
      k0_pay227 k0_pay228 k0_pay229 k0_pay230 0#32 (harg1.unread x0) (harg2.unread x1) (arg9.view.writes (Elt F) (harg9.unread x9)
        (kernelRun c i arg1 harg1 arg2 harg2 arg3 harg3 arg4 harg4 arg5 harg5 arg6 harg6 arg7 harg7 arg8 harg8 arg9 harg9
          x0 x1 x2 x3 x4 x9).2.2.2.1)
      (k0_pay227, k0_pay228, k0_pay229, k0_pay230) k).1 = (accE x0 x1 x2 0 92, accE x0 x1 x2 1 92, accE x0 x1 x2 2 92, accE x0 x1 x2 3 92) ∧
    Pairs x0 x1 x2 (st_k0_t1 Variants.none c none i arg1 harg1 arg2 harg2 arg3 harg3 arg4 harg4 arg5 harg5 arg6 harg6 arg7 harg7 arg8 harg8
      arg9 harg9 k0_pay227 k0_pay228 k0_pay229 k0_pay230 0#32 (harg1.unread x0) (harg2.unread x1) (arg9.view.writes (Elt F)
        (harg9.unread x9) (kernelRun c i arg1 harg1 arg2 harg2 arg3 harg3 arg4 harg4 arg5 harg5 arg6 harg6 arg7 harg7 arg8 harg8 arg9 harg9
          x0 x1 x2 x3 x4 x9).2.2.2.1)
      (k0_pay227, k0_pay228, k0_pay229, k0_pay230) k).2 736 := by
  subst hk
  exact st_vals Variants.none c none i arg1 harg1 arg2 harg2 arg3 harg3 arg4 harg4 arg5 harg5 arg6 harg6 arg7 harg7 arg8 harg8 arg9 harg9
    _ _ _ _ _ x0 x1 _ (prods c i arg1 harg1 arg2 harg2 arg3 harg3 arg4 harg4 arg5 harg5 arg6 harg6 arg7 harg7 arg8 harg8 arg9 harg9
      x0 x1 x2 x3 x4 x9 _) 92 (le_refl _)

/-- The pieces left in the pair block hold the pair entries, and reach every row. -/
theorem pairs_run : Pairs x0 x1 x2 (kernelRun c i arg1 harg1 arg2 harg2 arg3 harg3 arg4 harg4 arg5 harg5 arg6 harg6 arg7 harg7 arg8 harg8
    arg9 harg9 x0 x1 x2 x3 x4 x9).1 741 := by
  have h9 := prods c i arg1 harg1 arg2 harg2 arg3 harg3 arg4 harg4 arg5 harg5 arg6 harg6 arg7 harg7 arg8 harg8 arg9 harg9
    x0 x1 x2 x3 x4 x9 arg9.view.junk
  have hst := (st_end c i arg1 harg1 arg2 harg2 arg3 harg3 arg4 harg4 arg5 harg5 arg6 harg6 arg7 harg7 arg8 harg8 arg9 harg9
    x0 x1 x2 x3 x4 x9 (Scf.trips k0_t1_loop.lb k0_t1_loop.ub k0_t1_loop.st) trips_eq).2
  exact hst.four 5 rfl rfl rfl rfl (by decide) (by decide) (by decide) (by decide) _ _ _ _
    (tile_piece harg1 harg2 x0 x1 _ h9 0 736 rfl rfl rfl (by decide) (by decide) (by decide) (by decide) (by decide) (by decide))
    (tile_piece harg1 harg2 x0 x1 _ h9 1 736 rfl rfl rfl (by decide) (by decide) (by decide) (by decide) (by decide) (by decide))
    (tile_piece harg1 harg2 x0 x1 _ h9 2 736 rfl rfl rfl (by decide) (by decide) (by decide) (by decide) (by decide) (by decide))
    (tile_piece harg1 harg2 x0 x1 _ h9 3 736 rfl rfl rfl (by decide) (by decide) (by decide) (by decide) (by decide) (by decide))

/-- The five rows left after the loop, in chunk `q`. -/
theorem rest_eq (X9 : BufTy.Contents (Elt F) arg9.view.ty)
    (h9 : ∀ y : S4x744x128.Idx, (y 1).val < 741 → arg9.view.read (Elt F) X9 y = prodBuf x2 y) (q : ℕ)
    (inba : ∀ a, (![736, 128 * q] : Fin 2 → ℕ) a + (![5, 128] : Fin 2 → ℕ) a ≤ S744x512.size a)
    (inbw : ∀ a, (![q, 736, 0] : Fin 3 → ℕ) a + (![1, 5, 128] : Fin 3 → ℕ) a ≤ S4x744x128.size a)
    (h : (⟨3, ![1, 5, 128]⟩ : Shape).ShapeCasts ⟨2, ![5, 128]⟩) :
    tile (arg1.view.readAt (Elt F) (Rect.unit (s := S744x512) ![736, 128 * q] ![5, 128] inba).toLoadRect (harg1.unread x0))
      (arg2.view.readAt (Elt F) (Rect.unit (s := S744x512) ![736, 128 * q] ![5, 128] inba).toLoadRect (harg2.unread x1))
      (arg9.view.readAt (Elt F) (Rect.unit (s := S4x744x128) ![q, 736, 0] ![1, 5, 128] inbw).toLoadRect X9) h = restE x0 x1 x2 q := by
  funext y
  exact (congrArg _ (eq_ix2 (n0 := 5) (n1 := 128) y)).trans
    (tile_eq harg1 harg2 x0 x1 X9 h9 q 736 rfl rfl (by decide) inba inbw h (y 0) (y 1))

/-- The linear weights of chunk `q`. -/
theorem lin_eq (q : ℕ) (inb : ∀ a, (![0, 128 * q] : Fin 2 → ℕ) a + (![39, 128] : Fin 2 → ℕ) a ≤ S40x512.size a) :
    (bitcastToFloat .f32 (arg4.view.readAt (Elt F) (Rect.unit (s := S40x512) ![0, 128 * q] ![39, 128] inb).toLoadRect (harg4.unread x3))
      : FVec F S39x128 .f32) = linE x3 q := by
  funext y
  show FloatOps.ofBits .f32 (View.read (Elt F) arg4.view (harg4.unread x3) _) = FloatOps.ofBits .f32 _
  rw [harg4.read_unread, eq_at2 x3]
  exact congrArg (FloatOps.ofBits (F := F) .f32) (congrArg₂ (at2 x3)
    ((show _ = 0 + 1 * (y 0).val from rfl).trans (by omega)) ((show _ = 128 * q + 1 * (y 1).val from rfl).trans (by omega)))

/-- The bias. -/
theorem bias_eq : kernelRun.sl.r_50 c arg5 harg5 x4 = x4 (ix1 0) := by
  show View.read (Elt F) arg5.view (harg5.unread x4) _ = _
  rw [harg5.read_unread]
  exact congrArg x4 (funext fun a => Fin.ext (by
    match a with
    | ⟨0, _⟩ => exact (show _ = 0 + 1 * 0 from rfl)))

/-- The pieces left in the logit block hold the logits. -/
theorem logit_agree : ∀ pc ∈ (kernelRun c i arg1 harg1 arg2 harg2 arg3 harg3 arg4 harg4 arg5 harg5 arg6 harg6 arg7 harg7 arg8 harg8 arg9
    harg9 x0 x1 x2 x3 x4 x9).2.1, ∀ x, pc.2 x = logitBlk x0 x1 x2 x3 x4 (pc.1.emb x) := by
  have h9 := prods c i arg1 harg1 arg2 harg2 arg3 harg3 arg4 harg4 arg5 harg5 arg6 harg6 arg7 harg7 arg8 harg8 arg9 harg9
    x0 x1 x2 x3 x4 x9 arg9.view.junk
  have hst := (st_end c i arg1 harg1 arg2 harg2 arg3 harg3 arg4 harg4 arg5 harg5 arg6 harg6 arg7 harg7 arg8 harg8 arg9 harg9
    x0 x1 x2 x3 x4 x9 (Scf.trips k0_t1_loop.lb k0_t1_loop.ub k0_t1_loop.st) trips_eq).1
  have hrest := fun q => rest_eq arg1 harg1 arg2 harg2 arg9 x0 x1 x2 _ h9 q
  have hlin := fun q => lin_eq arg4 harg4 x3 q
  have hb := bias_eq c arg5 harg5 x4
  refine List.forall_mem_cons.2 ⟨logit_piece x0 x1 x2 x3 x4 3 (by decide) _ _ _ _ (congrArg (fun t => t.2.2.2) hst)
    (hrest 3 (by decide) (by decide) (by decide)) (hlin 3 (by decide)) hb, ?_⟩
  refine List.forall_mem_cons.2 ⟨logit_piece x0 x1 x2 x3 x4 2 (by decide) _ _ _ _ (congrArg (fun t => t.2.2.1) hst)
    (hrest 2 (by decide) (by decide) (by decide)) (hlin 2 (by decide)) hb, ?_⟩
  refine List.forall_mem_cons.2 ⟨logit_piece x0 x1 x2 x3 x4 1 (by decide) _ _ _ _ (congrArg (fun t => t.2.1) hst)
    (hrest 1 (by decide) (by decide) (by decide)) (hlin 1 (by decide)) hb, ?_⟩
  refine List.forall_mem_cons.2 ⟨logit_piece x0 x1 x2 x3 x4 0 (by decide) _ _ _ _ (congrArg (fun t => t.1) hst)
    (hrest 0 (by decide) (by decide) (by decide)) (hlin 0 (by decide)) hb, ?_⟩
  exact List.forall_mem_nil _

/-- They reach every lane. -/
theorem logit_cover (y : S1x1x512.Idx) : ∃ pc ∈ (kernelRun c i arg1 harg1 arg2 harg2 arg3 harg3 arg4 harg4 arg5 harg5 arg6 harg6 arg7
    harg7 arg8 harg8 arg9 harg9 x0 x1 x2 x3 x4 x9).2.1, y ∈ pc.1.set :=
  View.cover_of_tiledBy _ ![1, 1, 128] (by sl_kernel_rfl) y

/-- The pair buffer after the body. -/
theorem read_pair (v : View sig .tc .vmem S1x741x512 .f32) (f : BufTy.Contents (Elt F) v.ty) :
    v.read (Elt F) (v.writes (Elt F) f (kernelRun c i arg1 harg1 arg2 harg2 arg3 harg3 arg4 harg4 arg5 harg5 arg6 harg6 arg7 harg7 arg8
      harg8 arg9 harg9 x0 x1 x2 x3 x4 x9).1) = pairBlk x0 x1 x2 := by
  have h := pairs_run c i arg1 harg1 arg2 harg2 arg3 harg3 arg4 harg4 arg5 harg5 arg6 harg6 arg7 harg7 arg8 harg8 arg9 harg9
    x0 x1 x2 x3 x4 x9
  funext y
  exact View.read_writes_apply_of_pieces v f _ _ h.agree y (h.cover y (y 1).isLt)

/-- The logit buffer after the body. -/
theorem read_logit (v : View sig .tc .vmem S1x1x512 .f32) (f : BufTy.Contents (Elt F) v.ty) :
    v.read (Elt F) (v.writes (Elt F) f (kernelRun c i arg1 harg1 arg2 harg2 arg3 harg3 arg4 harg4 arg5 harg5 arg6 harg6 arg7 harg7 arg8
      harg8 arg9 harg9 x0 x1 x2 x3 x4 x9).2.1) = logitBlk x0 x1 x2 x3 x4 := by
  funext y
  exact View.read_writes_apply_of_pieces v f _ _ (logit_agree c i arg1 harg1 arg2 harg2 arg3 harg3 arg4 harg4 arg5 harg5 arg6 harg6 arg7
    harg7 arg8 harg8 arg9 harg9 x0 x1 x2 x3 x4 x9) y (logit_cover c i arg1 harg1 arg2 harg2 arg3 harg3 arg4 harg4 arg5 harg5 arg6 harg6
    arg7 harg7 arg8 harg8 arg9 harg9 x0 x1 x2 x3 x4 x9 y)

end

end Cert.Kernel.Score

end
-- ==== Proof.KernelFrame.lean ====
/- The frame: the body's obligation at every grid point, the run of the whole call, and the argument arrays unchanged at its end. The two
   results' blocks are stated as formulas of the inputs' blocks, so that the run also says what the results hold. -/
module

public import proofs.«01_k».proof.Proof.KernelBlock
public import Idealize.ShloMosaic.Lib.Claim

@[expose] public section

set_option maxRecDepth 16384

noncomputable section

namespace Cert.Kernel.Score

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's invariant with the scratch operands as memrefs owned at some contents: what the body is handed and gives back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The pipeline's proof data -/

/-- The proof data of the one pipeline on core `c`: the arrays as the region finds them (`V`); after the body at
    point `t` each input's buffer at its block, the pair result's at `pairBlk` and the logit result's at `logitBlk`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => pairBlk (iblk m c 0 t) (iblk m c 1 t) (iblk m c 2 t)
    | ⟨6, _⟩ => logitBlk (iblk m c 0 t) (iblk m c 1 t) (iblk m c 2 t) (iblk m c 3 t) (iblk m c 4 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = pairBlk (iblk m c 0 t) (iblk m c 1 t) (iblk m c 2 t) := by dsimp only [dats]
theorem after0_6 (c : Dev nD) (t : Fin cfg0.N) : (dats m 0 c).after 6 t = logitBlk (iblk m c 0 t) (iblk m c 1 t) (iblk m c 2 t) (iblk m c 3 t) (iblk m c 4 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, ⟨%d9, HS1⟩⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun c (grid0.coords t) _ _ _ _ _ _ _ _ _ _ _ _ _ _ _ _ _ _ (iblk m c 0 t) (iblk m c 1 t) (iblk m c 2 t) (iblk m c 3 t)
    (iblk m c 4 t) d9).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  iintro ⟨H0, H1, H2, H3, H4, ⟨%e5, H5⟩, ⟨%e6, H6⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact read_pair c _ _ _ _ _ _ _ _ _ _ _ _ _ _ _ _ _ _ _ _ _ _ _ _ _ _ _
  unfold owns; iexists _; isplitr
  swap; · iexact H6
  ipureintro; exact read_logit c _ _ _ _ _ _ _ _ _ _ _ _ _ _ _ _ _ _ _ _ _ _ _ _ _ _ _

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the argument arrays end unchanged and every counter is back at zero, at any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Score

end
-- ==== Proof.Run.lean ====
/- The kernel body run once, on any staging buffers: which pieces its stores leave in each result's buffer.
   The weight-product scratch has three rows that no store reaches and that no result reads; so the run takes that
   scratch's contents at entry as an argument `x9`, and the pieces it finds may mention it. `Weights.lean` and
   `Block.lean` show that what the results hold does not depend on it. -/
module

public import proofs.«01_k».proof.Proof.Gen.KernelIdeal.Frame
public import proofs.«01_k».proof.Proof.Gen.KernelIdeal.Skeleton
public import proofs.«01_k».proof.Proof.Gen.KernelIdeal.Loops

@[expose] public section

-- membership in a rectangle of production extents (`View.cover_of_tiled`): the elaborator's structural look
-- recurses once per coordinate of the long axes
set_option maxRecDepth 16384

noncomputable section

namespace Cert.KernelIdeal.Score

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One staging buffer of output window 5, through which its contents are stated (`View.read_writes_of_cover`: the
    choice does not matter). -/
abbrev VO0_5 : View sig .tc .vmem S1x741x512 .f32 := (Memref.whole cc0_stg5_0 : Memref sig .tc .vmem S1x741x512 .f32).view
/-- One staging buffer of output window 6, through which its contents are stated (`View.read_writes_of_cover`: the
    choice does not matter). -/
abbrev VO0_6 : View sig .tc .vmem S1x1x512 .f32 := (Memref.whole cc0_stg6_0 : Memref sig .tc .vmem S1x1x512 .f32).view
/-- Each window's current staging memref at point `t`, spelled as the pipeline passes it (`bodyAt0`), and its wholeness. -/
abbrev ms0_0 (t : Fin cfg0.N) : Memref sig .tc .vmem S744x512 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S744x512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S40x512 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S40x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x741x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x512 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S4x40x128 .f32 := Memref.whole cc0_scratch0
abbrev scM0_1 : Memref sig .tc .vmem S4x744x128 .f32 := Memref.whole cc0_scratch1

-- (the run's proof term is large: the definition's epilogue — `abstractNestedProofs` — walks it past the default budget)
set_option maxHeartbeats 3892000 in
/-- The body's run: with the inputs' buffers at `x0 … x4`, the weight-product scratch at `x9` and the other buffers at
    anything, it ends with the inputs as they were, and each buffer it stores into holding the pieces found here
    (`L5`: the pair result, `L6`: the logit result, `LT0`, `LT1`: the two scratch buffers), last store first. -/
noncomputable def kernelRun (c : Dev nD) (i : grid0.Coords) (arg1 : Memref sig .tc .vmem S744x512 .i32) (harg1 : arg1.IsWhole) (arg2 : Memref sig .tc .vmem S744x512 .i32) (harg2 : arg2.IsWhole) (arg3 : Memref sig .tc .vmem S40x512 .i32) (harg3 : arg3.IsWhole) (arg4 : Memref sig .tc .vmem S40x512 .i32) (harg4 : arg4.IsWhole) (arg5 : Memref sig .tc .smem S1 .f32) (harg5 : arg5.IsWhole) (arg6 : Memref sig .tc .vmem S1x741x512 .f32) (harg6 : arg6.IsWhole) (arg7 : Memref sig .tc .vmem S1x1x512 .f32) (harg7 : arg7.IsWhole) (arg8 : Memref sig .tc .vmem S4x40x128 .f32) (harg8 : arg8.IsWhole) (arg9 : Memref sig .tc .vmem S4x744x128 .f32) (harg9 : arg9.IsWhole)
    (x0 : Vec F S744x512 .i32) (x1 : Vec F S744x512 .i32) (x2 : Vec F S40x512 .i32) (x3 : Vec F S40x512 .i32) (x4 : Vec F S1 .f32) (x9 : Vec F S4x744x128 .f32) :
    Σ' (L5 : List (View.Piece (Elt F) S1x741x512 .f32)), Σ' (L6 : List (View.Piece (Elt F) S1x1x512 .f32)), Σ' (LT0 : List (View.Piece (Elt F) S4x40x128 .f32)), { LT1 : List (View.Piece (Elt F) S4x744x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare x9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LT0) ∗ (∃ f, arg9.view.loc (c : Thread nD τ) ↦[arg9.view.set]{fullShare} arg9.view.writes (Elt F) f LT1)) -∗ K ⟨⟩))
          ⊢ wp frame (wpE (defs₀ (F := F)) Variants.none c none) E (cc0_score i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_score_eq_skeleton]; unfold cc0_score_skel
    simp only [k0_part66_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [HS0]; · iexists _; iexact HS0
    iexists _; iexact HS1

end Cert.KernelIdeal.Score

end
-- ==== Proof.Spec.lean ====
/- What the scoring kernel's results hold, entry by entry, as functions of its operands: no buffers, no run, no grid. All of it is stated
   for any arithmetic of the floats, so that the same formulas serve the kernel at words and at ideal values. -/
module

public import proofs.«01_k».proof.Proof.Gen.KernelIdeal.Skeleton
public import Idealize.ShloMosaic.Lib.ValueIdxCore
public import Idealize.ShloMosaic.Lib.ValueLayout

@[expose] public section

set_option maxRecDepth 16384

noncomputable section

namespace Cert.KernelIdeal.Score

open Cert.KernelIdeal Cert.KernelIdeal.Gen Idealize.ShloMosaic Idealize.ShloMosaic.ValueIdx

/-! ## Entries by natural-number coordinates -/

/-- The entry of a matrix at row `r` and column `c`, each taken modulo its extent so that no bound has to be carried. -/
def at2 {α : Type} {m n : ℕ} [NeZero m] [NeZero n] (x : (⟨2, ![m, n]⟩ : Shape).Idx → α) (r c : ℕ) : α :=
  x (ix2 (Fin.ofNat m r) (Fin.ofNat n c))

/-- An entry at an index is the entry at that index's coordinates. -/
theorem eq_at2 {α : Type} {m n : ℕ} [NeZero m] [NeZero n] (x : (⟨2, ![m, n]⟩ : Shape).Idx → α) (i : (⟨2, ![m, n]⟩ : Shape).Idx) :
    x i = at2 x (i 0).val (i 1).val := by
  unfold at2
  congr 1
  rw [eq_ix2 i]
  congr 1 <;> exact Fin.ext (Nat.mod_eq_of_lt (Fin.isLt _)).symm

/-! ## Which two fields a row of pairs joins -/

/-- The first row of the pairs whose first field is `f`: of 39 fields, field `f` is the first of `38 - f` pairs. -/
def rowOf (f : ℕ) : ℕ := f * (77 - f) / 2

/-- The first field of pair row `r`: how many of the fields 1 … 37 begin their pairs at or before row `r`. -/
def fieldA (r : ℕ) : ℕ := (List.range 37).countP fun f => decide (rowOf (f + 1) ≤ r)

/-- The second field of pair row `r`. -/
def fieldB (r : ℕ) : ℕ := r - rowOf (fieldA r) + fieldA r + 1

/-- The `j`-th row of the pairs that begin with field `f` joins `f` and `f + 1 + j`. -/
theorem fields_row : ∀ f < 38, ∀ j < 38 - f, fieldA (rowOf f + j) = f ∧ fieldB (rowOf f + j) = f + 1 + j := by
  decide +kernel

variable {F : FTy → Type} [FloatOps F]

/-! ## The weights, the products of two weights, the dot products, the pair entries -/

/-- The weight of field `f` at column `col`: the float whose word the table holds. -/
def wgt (x2 : Vec F S40x512 .i32) (f col : ℕ) : F .f32 := FloatOps.ofBits .f32 (at2 x2 f col)

/-- The product of the two weights that pair row `r` joins, at column `col`. -/
def prodW (x2 : Vec F S40x512 .i32) (r col : ℕ) : F .f32 :=
  FloatOps.mulf (wgt x2 (fieldB r) col) (wgt x2 (fieldA r) col)

/-- The contents of the weight scratch: chunk `c`, field `f`, lane `l` holds the weight of `f` at column `128 c + l`. -/
def wgtBuf (x2 : Vec F S40x512 .i32) : S4x40x128.Idx → F .f32 :=
  fun y => wgt x2 (y 1).val (128 * (y 0).val + (y 2).val)

/-- The contents of the weight-product scratch in its first 741 rows. -/
def prodBuf (x2 : Vec F S40x512 .i32) : S4x744x128.Idx → F .f32 :=
  fun y => prodW x2 (y 1).val (128 * (y 0).val + (y 2).val)

/-- Half of the offset nibbles of a word, as two signed numbers in one word: the nibbles at bits 0–3 and 16–19 of `v`, less 8 each. -/
def pairNib (v : BitVec 32) : BitVec 32 := (v &&& 983055#32) - 524296#32

/-- The words' dot product as the kernel takes it: the eight nibbles of `p` against those of `q`, two products in each of four
    multiplications. -/
def dotW (p q : BitVec 32) : BitVec 32 :=
  let a := p ^^^ 2290649224#32
  let b' := q ^^^ 2290649224#32
  let b := b' <<< 16 ||| b' >>> 16
  (pairNib a * pairNib b + pairNib (a >>> 4) * pairNib (b >>> 4) + pairNib (a >>> 8) * pairNib (b >>> 8)
    + pairNib (a >>> 12) * pairNib (b >>> 12) + 32768#32).sshiftRight 16

/-- The pair result's entry at row `r` and column `col`. -/
def pairE (x0 x1 : Vec F S744x512 .i32) (x2 : Vec F S40x512 .i32) (r col : ℕ) : F .f32 :=
  FloatOps.mulf (FloatOps.sitofp .f32 (dotW (at2 x0 r col) (at2 x1 r col))) (prodW x2 r col)

/-- The pair result's block. -/
def pairBlk (x0 x1 : Vec F S744x512 .i32) (x2 : Vec F S40x512 .i32) : S1x741x512.Idx → F .f32 :=
  fun y => pairE x0 x1 x2 (y 1).val (y 2).val

/-! ## The logit -/

/-- The running sums of chunk `c` after `k` groups of eight pair rows: lane `l` of sublane `s` has added the rows `8 i + s`. -/
def accE (x0 x1 : Vec F S744x512 .i32) (x2 : Vec F S40x512 .i32) (c : ℕ) : ℕ → S8x128.Idx → F .f32
  | 0 => fun _ => FloatOps.ofBits .f32 0#32
  | k + 1 => fun y => FloatOps.addf (accE x0 x1 x2 c k y) (pairE x0 x1 x2 (8 * k + (y 0).val) (128 * c + (y 1).val))

/-- The five pair rows that are left after 92 groups of eight. -/
def restE (x0 x1 : Vec F S744x512 .i32) (x2 : Vec F S40x512 .i32) (c : ℕ) : S5x128.Idx → F .f32 :=
  fun y => pairE x0 x1 x2 (736 + (y 0).val) (128 * c + (y 1).val)

/-- The linear weights of chunk `c`. -/
def linE (x3 : Vec F S40x512 .i32) (c : ℕ) : S39x128.Idx → F .f32 :=
  fun y => wgt x3 (y 0).val (128 * c + (y 1).val)

end Cert.KernelIdeal.Score

end
-- ==== Proof.Weights.lean ====
/- The two scratch buffers before the loop: the weights, and the products of two weights. Every store into the product scratch is an
   instance of one lemma (`prod_piece`), whichever field and chunk it is for; the rows no store reaches (741 … 743) stay as they were,
   and everything here about a row says that it is below 741. -/
module

public import proofs.«01_k».proof.Proof.Run
public import proofs.«01_k».proof.Proof.Spec

@[expose] public section

set_option maxRecDepth 16384

noncomputable section

namespace Cert.KernelIdeal.Score

open Cert.KernelIdeal Cert.KernelIdeal.Gen Idealize.ShloMosaic Idealize.ShloMosaic.TcCoe Idealize.ShloMosaic.ValueIdx

variable {F : FTy → Type} [FloatOps F]

/-- The weight buffer at an entry whose coordinates are known. -/
theorem wgtBuf_of (x2 : Vec F S40x512 .i32) (i : S4x40x128.Idx) (q r l : ℕ) (h0 : (i 0).val = q) (h1 : (i 1).val = r)
    (h2 : (i 2).val = l) : wgtBuf x2 i = wgt x2 r (128 * q + l) := by
  subst h0 h1 h2; rfl

/-- The product buffer at an entry whose coordinates are known. -/
theorem prodBuf_of (x2 : Vec F S40x512 .i32) (i : S4x744x128.Idx) (q r l : ℕ) (h0 : (i 0).val = q) (h1 : (i 1).val = r)
    (h2 : (i 2).val = l) : prodBuf x2 i = prodW x2 r (128 * q + l) := by
  subst h0 h1 h2; rfl

/-! ## The weight scratch -/

/-- The pieces `L` store weights, each where the scratch should hold it, and reach every row of the chunks below `k`. -/
structure Weights (x2 : Vec F S40x512 .i32) (L : List (View.Piece (Elt F) S4x40x128 .f32)) (k : ℕ) : Prop where
  agree : ∀ p ∈ L, ∀ x : p.1.shape.Idx, p.2 x = wgtBuf x2 (p.1.emb x)
  cover : ∀ y : S4x40x128.Idx, (y 0).val < k → ∃ p ∈ L, y ∈ p.1.set

/-- One chunk more: the store of chunk `k`'s words, read as floats, before the chunks that are already there. -/
theorem Weights.cons {x2 : Vec F S40x512 .i32} {L : List (View.Piece (Elt F) S4x40x128 .f32)} {k : ℕ} (h : Weights x2 L k)
    {arg3 : Memref sig .tc .vmem S40x512 .i32} (harg3 : arg3.IsWhole)
    (inb : ∀ a, (![k, 0, 0] : Fin 3 → ℕ) a + (![1, 40, 128] : Fin 3 → ℕ) a ≤ S4x40x128.size a)
    (inb' : ∀ a, (![0, 128 * k] : Fin 2 → ℕ) a + (![40, 128] : Fin 2 → ℕ) a ≤ S40x512.size a)
    (P : (⟨3, ![1, 40, 128]⟩ : Shape).Idx → F .f32)
    (hP : P = k0_pay33 (arg3.view.readAt (Elt F) (Rect.unit (s := S40x512) ![0, 128 * k] ![40, 128] inb').toLoadRect (harg3.unread x2))) :
    Weights x2 (⟨Rect.unit (s := S4x40x128) ![k, 0, 0] ![1, 40, 128] inb, P⟩ :: L) (k + 1) where
  agree p hp x := by
    rcases List.mem_cons.mp hp with rfl | hp
    · subst hP
      have h512 : 128 * k + 128 ≤ 512 := inb' 1
      have hx0 : (x 0).val = 0 := by have : (x 0).val < 1 := (x 0).isLt; omega
      refine Eq.trans ?_ (wgtBuf_of x2 _ k (x 1).val (x 2).val
        ((show _ = k + 1 * (x 0).val from rfl).trans (by omega)) ((show _ = 0 + 1 * (x 1).val from rfl).trans (by omega))
        ((show _ = 0 + 1 * (x 2).val from rfl).trans (by omega))).symm
      refine (congrArg (k0_pay33 _) (eq_ix3 (n0 := 1) (n1 := 40) (n2 := 128) x)).trans ?_
      unfold k0_pay33
      refine (shapeCast_ab_1ab_apply _ _ _ _ _).trans ?_
      show FloatOps.ofBits .f32 (View.read (Elt F) arg3.view (harg3.unread x2) _) = FloatOps.ofBits .f32 _
      rw [harg3.read_unread, eq_at2 x2]
      exact congrArg (FloatOps.ofBits (F := F) .f32) (congrArg₂ (at2 x2)
        ((show _ = 0 + 1 * (x 1).val from rfl).trans (by omega)) ((show _ = 128 * k + 1 * (x 2).val from rfl).trans (by omega)))
    · exact h.agree p hp x
  cover y hy := by
    by_cases hk : (y 0).val < k
    · obtain ⟨p, hp, hy'⟩ := h.cover y hk
      exact ⟨p, List.mem_cons_of_mem _ hp, hy'⟩
    · refine ⟨_, List.mem_cons_self, ?_⟩
      rw [Rect.mem_set_unit]
      have h1 : (y 1).val < 40 := (y 1).isLt
      have h2 : (y 2).val < 128 := (y 2).isLt
      intro a
      match a with
      | ⟨0, _⟩ => exact ⟨show k ≤ (y 0).val by omega, show (y 0).val < k + 1 by omega⟩
      | ⟨1, _⟩ => exact ⟨Nat.zero_le _, show (y 1).val < 0 + 40 by omega⟩
      | ⟨2, _⟩ => exact ⟨Nat.zero_le _, show (y 2).val < 0 + 128 by omega⟩

/-- No chunk stored yet. -/
theorem Weights.nil (x2 : Vec F S40x512 .i32) : Weights x2 [] 0 where
  agree p hp := absurd hp List.not_mem_nil
  cover y hy := absurd hy (Nat.not_lt_zero _)

section
variable (c : Dev nD) (arg3 : Memref sig .tc .vmem S40x512 .i32) (harg3 : arg3.IsWhole) (x2 : Vec F S40x512 .i32)

theorem weights1 : Weights x2 (kernelRun.sl.HS0_1 c arg3 harg3 x2) 1 := (Weights.nil x2).cons harg3 _ _ _ rfl
theorem weights2 : Weights x2 (kernelRun.sl.HS0_2 c arg3 harg3 x2) 2 := (weights1 c arg3 harg3 x2).cons harg3 _ _ _ rfl
theorem weights3 : Weights x2 (kernelRun.sl.HS0_3 c arg3 harg3 x2) 3 := (weights2 c arg3 harg3 x2).cons harg3 _ _ _ rfl
theorem weights4 : Weights x2 (kernelRun.sl.HS0_4 c arg3 harg3 x2) 4 := (weights3 c arg3 harg3 x2).cons harg3 _ _ _ rfl
end

/-- A load of rows `o … o + n` of chunk `q`, read back from the pieces, is those fields' weights. -/
theorem Weights.load {x2 : Vec F S40x512 .i32} {L : List (View.Piece (Elt F) S4x40x128 .f32)} {k : ℕ} (h : Weights x2 L k)
    (v : View sig .tc .vmem S4x40x128 .f32) (q o n : ℕ) (hq : q < k)
    (inb : ∀ a, (![q, o, 0] : Fin 3 → ℕ) a + (![1, n, 128] : Fin 3 → ℕ) a ≤ S4x40x128.size a) (u : Fin 1) (j : Fin n) (l : Fin 128) :
    v.readCov L (Rect.unit (s := S4x40x128) ![q, o, 0] ![1, n, 128] inb).toLoadRect (ix3 u j l) = wgt x2 (o + j.val) (128 * q + l.val) := by
  have hu : u.val = 0 := by omega
  have e0 : ((Rect.unit (s := S4x40x128) ![q, o, 0] ![1, n, 128] inb).toLoadRect.idx (ix3 u j l) 0).val = q + 1 * u.val := rfl
  exact (View.read_writes_apply_of_pieces v _ (wgtBuf x2) L h.agree _ (h.cover _ (by rw [e0]; omega))).trans
    (wgtBuf_of x2 _ q (o + j.val) l.val (e0.trans (by omega)) ((show _ = o + 1 * j.val from rfl).trans (by omega))
      ((show _ = 0 + 1 * l.val from rfl).trans (by omega)))

/-! ## The weight-product scratch -/

/-- What the store for field `f` and chunk `q` leaves is, row by row, the product of the two weights which that row joins: the row at
    `s + j` joins `f` and `f + 1 + j`. -/
theorem prod_rows (x2 : Vec F S40x512 .i32) (q f s n : ℕ) (hf : f + n = 38) (hs : s = rowOf f)
    (inb : ∀ a, (![q, s, 0] : Fin 3 → ℕ) a + (![1, n, 128] : Fin 3 → ℕ) a ≤ S4x744x128.size a)
    (P : (⟨3, ![1, n, 128]⟩ : Shape).Idx → F .f32)
    (hP : ∀ (u : Fin 1) (j : Fin n) (l : Fin 128),
      P (ix3 u j l) = FloatOps.mulf (wgt x2 (f + 1 + j.val) (128 * q + l.val)) (wgt x2 f (128 * q + l.val)))
    (x : (Rect.unit (s := S4x744x128) ![q, s, 0] ![1, n, 128] inb).shape.Idx) :
    P x = prodBuf x2 ((Rect.unit (s := S4x744x128) ![q, s, 0] ![1, n, 128] inb).emb x) := by
  have hx0 : (x 0).val = 0 := by have : (x 0).val < 1 := (x 0).isLt; omega
  have hx1 : (x 1).val < n := (x 1).isLt
  have hfields := fields_row f (by omega) (x 1).val (by omega)
  refine Eq.trans ?_ (prodBuf_of x2 _ q (s + (x 1).val) (x 2).val
    ((show _ = q + 1 * (x 0).val from rfl).trans (by omega)) ((show _ = s + 1 * (x 1).val from rfl).trans (by omega))
    ((show _ = 0 + 1 * (x 2).val from rfl).trans (by omega))).symm
  refine (congrArg P (eq_ix3 (n0 := 1) (n1 := n) (n2 := 128) x)).trans ((hP (x 0) (x 1) (x 2)).trans ?_)
  subst hs
  unfold prodW
  exact (congrArg₂ (fun a b => FloatOps.mulf (wgt x2 b (128 * q + (x 2).val)) (wgt x2 a (128 * q + (x 2).val)))
    hfields.1 hfields.2).symm

/-- The payload the kernel stores for a field with more than one pair: the rows of the later fields' weights times the field's own. -/
theorem prod_piece {x2 : Vec F S40x512 .i32} {L : List (View.Piece (Elt F) S4x40x128 .f32)} {k : ℕ} (h : Weights x2 L k)
    (v : View sig .tc .vmem S4x40x128 .f32) (q f s n : ℕ) (hq : q < k) (hf : f + n = 38) (hs : s = rowOf f)
    (inb : ∀ a, (![q, s, 0] : Fin 3 → ℕ) a + (![1, n, 128] : Fin 3 → ℕ) a ≤ S4x744x128.size a)
    (inba : ∀ a, (![q, f + 1, 0] : Fin 3 → ℕ) a + (![1, n, 128] : Fin 3 → ℕ) a ≤ S4x40x128.size a)
    (inbb : ∀ a, (![q, f, 0] : Fin 3 → ℕ) a + (![1, 1, 128] : Fin 3 → ℕ) a ≤ S4x40x128.size a)
    (h1 : (⟨3, ![1, n, 128]⟩ : Shape).ShapeCasts ⟨2, ![n, 128]⟩) (h2 : (⟨3, ![1, 1, 128]⟩ : Shape).ShapeCasts ⟨2, ![1, 128]⟩)
    (h3 : (⟨2, ![1, 128]⟩ : Shape).Broadcasts ⟨2, ![n, 128]⟩) (h4 : (⟨2, ![n, 128]⟩ : Shape).ShapeCasts ⟨3, ![1, n, 128]⟩)
    (x : (Rect.unit (s := S4x744x128) ![q, s, 0] ![1, n, 128] inb).shape.Idx) :
    shapeCast ⟨3, ![1, n, 128]⟩ (mulf (F := F) (φ := .f32)
        (shapeCast ⟨2, ![n, 128]⟩ (v.readCov L (Rect.unit (s := S4x40x128) ![q, f + 1, 0] ![1, n, 128] inba).toLoadRect) h1)
        (broadcastTo ⟨2, ![n, 128]⟩
          (shapeCast ⟨2, ![1, 128]⟩ (v.readCov L (Rect.unit (s := S4x40x128) ![q, f, 0] ![1, 1, 128] inbb).toLoadRect) h2) h3)) h4 x
      = prodBuf x2 ((Rect.unit (s := S4x744x128) ![q, s, 0] ![1, n, 128] inb).emb x) := by
  refine prod_rows x2 q f s n hf hs inb _ (fun u j l => ?_) x
  rw [shapeCast_ab_1ab_apply]
  show FloatOps.mulf (shapeCast ⟨2, ![n, 128]⟩ _ h1 (ix2 j l)) (broadcastTo ⟨2, ![n, 128]⟩ _ h3 (ix2 j l)) = _
  rw [broadcastTo_1b_ab_apply, shapeCast_1ab_ab_apply, shapeCast_1ab_ab_apply, h.load v q (f + 1) n hq, h.load v q f 1 hq]
  rfl

/-- The payload for field 37, which has one pair. -/
theorem prod_piece_last {x2 : Vec F S40x512 .i32} {L : List (View.Piece (Elt F) S4x40x128 .f32)} {k : ℕ} (h : Weights x2 L k)
    (v : View sig .tc .vmem S4x40x128 .f32) (q : ℕ) (hq : q < k)
    (inb : ∀ a, (![q, 740, 0] : Fin 3 → ℕ) a + (![1, 1, 128] : Fin 3 → ℕ) a ≤ S4x744x128.size a)
    (inba : ∀ a, (![q, 38, 0] : Fin 3 → ℕ) a + (![1, 1, 128] : Fin 3 → ℕ) a ≤ S4x40x128.size a)
    (inbb : ∀ a, (![q, 37, 0] : Fin 3 → ℕ) a + (![1, 1, 128] : Fin 3 → ℕ) a ≤ S4x40x128.size a)
    (h1 h2 : (⟨3, ![1, 1, 128]⟩ : Shape).ShapeCasts ⟨2, ![1, 128]⟩) (h4 : (⟨2, ![1, 128]⟩ : Shape).ShapeCasts ⟨3, ![1, 1, 128]⟩)
    (x : (Rect.unit (s := S4x744x128) ![q, 740, 0] ![1, 1, 128] inb).shape.Idx) :
    shapeCast ⟨3, ![1, 1, 128]⟩ (mulf (F := F) (φ := .f32)
        (shapeCast ⟨2, ![1, 128]⟩ (v.readCov L (Rect.unit (s := S4x40x128) ![q, 38, 0] ![1, 1, 128] inba).toLoadRect) h1)
        (shapeCast ⟨2, ![1, 128]⟩ (v.readCov L (Rect.unit (s := S4x40x128) ![q, 37, 0] ![1, 1, 128] inbb).toLoadRect) h2)) h4 x
      = prodBuf x2 ((Rect.unit (s := S4x744x128) ![q, 740, 0] ![1, 1, 128] inb).emb x) := by
  refine prod_rows x2 q 37 740 1 rfl (by decide) inb _ (fun u j l => ?_) x
  rw [shapeCast_ab_1ab_apply]
  show FloatOps.mulf (shapeCast ⟨2, ![1, 128]⟩ _ h1 (ix2 j l)) (shapeCast ⟨2, ![1, 128]⟩ _ h2 (ix2 j l)) = _
  rw [shapeCast_1ab_ab_apply, shapeCast_1ab_ab_apply, h.load v q 38 1 hq, h.load v q 37 1 hq]
  have hj : j.val = 0 := by omega
  rw [hj]

end Cert.KernelIdeal.Score

end
-- ==== Proof.Products.lean ====
/- The weight-product scratch after the straight-line part of the body: every store agrees with one formula, and the stores reach every
   row below 741. -/
module

public import proofs.«01_k».proof.Proof.Weights

@[expose] public section

set_option maxRecDepth 16384

noncomputable section

namespace Cert.KernelIdeal.Score

open Cert.KernelIdeal Cert.KernelIdeal.Gen Idealize.ShloMosaic Idealize.ShloMosaic.TcCoe Idealize.ShloMosaic.ValueIdx

variable {F : FTy → Type} [FloatOps F]

variable (c : Dev nD) (i : grid0.Coords)
  (arg1 : Memref sig .tc .vmem S744x512 .i32) (harg1 : arg1.IsWhole) (arg2 : Memref sig .tc .vmem S744x512 .i32) (harg2 : arg2.IsWhole)
  (arg3 : Memref sig .tc .vmem S40x512 .i32) (harg3 : arg3.IsWhole) (arg4 : Memref sig .tc .vmem S40x512 .i32) (harg4 : arg4.IsWhole)
  (arg5 : Memref sig .tc .smem S1 .f32) (harg5 : arg5.IsWhole) (arg6 : Memref sig .tc .vmem S1x741x512 .f32) (harg6 : arg6.IsWhole)
  (arg7 : Memref sig .tc .vmem S1x1x512 .f32) (harg7 : arg7.IsWhole) (arg8 : Memref sig .tc .vmem S4x40x128 .f32) (harg8 : arg8.IsWhole)
  (arg9 : Memref sig .tc .vmem S4x744x128 .f32) (harg9 : arg9.IsWhole)
  (x0 x1 : Vec F S744x512 .i32) (x2 x3 : Vec F S40x512 .i32) (x4 : Vec F S1 .f32) (x9 : Vec F S4x744x128 .f32)

set_option maxHeartbeats 4000000 in
/-- Every store into the product scratch agrees with the formula. -/
theorem prod_agree : ∀ pc ∈ (kernelRun c i arg1 harg1 arg2 harg2 arg3 harg3 arg4 harg4 arg5 harg5 arg6 harg6 arg7 harg7 arg8 harg8 arg9
    harg9 x0 x1 x2 x3 x4 x9).2.2.2.1, ∀ x, pc.2 x = prodBuf x2 (pc.1.emb x) := by
  refine List.forall_mem_cons.2 ⟨prod_piece_last (weights4 c arg3 harg3 x2) arg8.view 3 (by decide) (by decide) (by decide) (by decide)
    (by decide) (by decide) (by decide), ?_⟩
  iterate 37
    refine List.forall_mem_cons.2 ⟨prod_piece (weights4 c arg3 harg3 x2) arg8.view 3 _ _ _ (by decide) rfl rfl (by decide)
      (by decide) (by decide) (by decide) (by decide) (by decide) (by decide), ?_⟩
  refine List.forall_mem_cons.2 ⟨prod_piece_last (weights3 c arg3 harg3 x2) arg8.view 2 (by decide) (by decide) (by decide) (by decide)
    (by decide) (by decide) (by decide), ?_⟩
  iterate 37
    refine List.forall_mem_cons.2 ⟨prod_piece (weights3 c arg3 harg3 x2) arg8.view 2 _ _ _ (by decide) rfl rfl (by decide)
      (by decide) (by decide) (by decide) (by decide) (by decide) (by decide), ?_⟩
  refine List.forall_mem_cons.2 ⟨prod_piece_last (weights2 c arg3 harg3 x2) arg8.view 1 (by decide) (by decide) (by decide) (by decide)
    (by decide) (by decide) (by decide), ?_⟩
  iterate 37
    refine List.forall_mem_cons.2 ⟨prod_piece (weights2 c arg3 harg3 x2) arg8.view 1 _ _ _ (by decide) rfl rfl (by decide)
      (by decide) (by decide) (by decide) (by decide) (by decide) (by decide), ?_⟩
  refine List.forall_mem_cons.2 ⟨prod_piece_last (weights1 c arg3 harg3 x2) arg8.view 0 (by decide) (by decide) (by decide) (by decide)
    (by decide) (by decide) (by decide), ?_⟩
  iterate 37
    refine List.forall_mem_cons.2 ⟨prod_piece (weights1 c arg3 harg3 x2) arg8.view 0 _ _ _ (by decide) rfl rfl (by decide)
      (by decide) (by decide) (by decide) (by decide) (by decide) (by decide), ?_⟩
  exact List.forall_mem_nil _

/-- Three rows at the foot of each chunk, which no store of the body reaches. -/
def footRows : List (View.Piece (Elt F) S4x744x128 .f32) :=
  [⟨Rect.unit (s := S4x744x128) ![0, 741, 0] ![1, 3, 128] (by decide), fun _ => FloatOps.ofBits .f32 0#32⟩,
   ⟨Rect.unit (s := S4x744x128) ![1, 741, 0] ![1, 3, 128] (by decide), fun _ => FloatOps.ofBits .f32 0#32⟩,
   ⟨Rect.unit (s := S4x744x128) ![2, 741, 0] ![1, 3, 128] (by decide), fun _ => FloatOps.ofBits .f32 0#32⟩,
   ⟨Rect.unit (s := S4x744x128) ![3, 741, 0] ![1, 3, 128] (by decide), fun _ => FloatOps.ofBits .f32 0#32⟩]

/-- What lies in the foot rows has a row number of 741 or more. -/
theorem footRows_row : ∀ p ∈ footRows (F := F), ∀ y ∈ p.1.set, 741 ≤ (y 1).val := by
  intro p hp y hy
  unfold footRows at hp
  simp only [List.mem_cons, List.not_mem_nil, or_false] at hp
  rcases hp with rfl | rfl | rfl | rfl <;> exact ((Rect.mem_set_unit (inb := by decide)).1 hy 1).1

/-- With the foot rows, the stores reach the whole scratch. -/
theorem prod_cover_all (y : S4x744x128.Idx) : ∃ pc ∈ (kernelRun c i arg1 harg1 arg2 harg2 arg3 harg3 arg4 harg4 arg5 harg5 arg6 harg6 arg7
    harg7 arg8 harg8 arg9 harg9 x0 x1 x2 x3 x4 x9).2.2.2.1 ++ footRows, y ∈ pc.1.set :=
  View.cover_of_tiledBy _ ![1, 1, 128] (by sl_kernel_rfl) y

/-- The stores reach every row below 741. -/
theorem prod_cover (y : S4x744x128.Idx) (hy : (y 1).val < 741) : ∃ pc ∈ (kernelRun c i arg1 harg1 arg2 harg2 arg3 harg3 arg4 harg4 arg5
    harg5 arg6 harg6 arg7 harg7 arg8 harg8 arg9 harg9 x0 x1 x2 x3 x4 x9).2.2.2.1, y ∈ pc.1.set := by
  obtain ⟨p, hp, hyp⟩ := prod_cover_all c i arg1 harg1 arg2 harg2 arg3 harg3 arg4 harg4 arg5 harg5 arg6 harg6 arg7 harg7 arg8 harg8 arg9
    harg9 x0 x1 x2 x3 x4 x9 y
  rcases List.mem_append.1 hp with hp | hp
  · exact ⟨p, hp, hyp⟩
  · exact absurd (footRows_row p hp y hyp) (by omega)

/-- A read below row 741, whatever the scratch held before the stores, is the formula. -/
theorem prod_read (v : View sig .tc .vmem S4x744x128 .f32) (f : BufTy.Contents (Elt F) v.ty) (y : S4x744x128.Idx)
    (hy : (y 1).val < 741) :
    v.read (Elt F) (v.writes (Elt F) f (kernelRun c i arg1 harg1 arg2 harg2 arg3 harg3 arg4 harg4 arg5 harg5 arg6 harg6 arg7 harg7 arg8
      harg8 arg9 harg9 x0 x1 x2 x3 x4 x9).2.2.2.1) y = prodBuf x2 y :=
  View.read_writes_apply_of_pieces v f (prodBuf x2) _ (prod_agree c i arg1 harg1 arg2 harg2 arg3 harg3 arg4 harg4 arg5 harg5 arg6 harg6 arg7
    harg7 arg8 harg8 arg9 harg9 x0 x1 x2 x3 x4 x9) y (prod_cover c i arg1 harg1 arg2 harg2 arg3 harg3 arg4 harg4 arg5 harg5 arg6 harg6 arg7
    harg7 arg8 harg8 arg9 harg9 x0 x1 x2 x3 x4 x9 y hy)

end Cert.KernelIdeal.Score

end
-- ==== Proof.Tile.lean ====
/- A tile of pair rows: what the kernel computes from eight (or, at the end, five) rows of words and of weight products in one chunk of 128
   lanes. Every trip of the loop makes four such tiles, and the straight-line part after it four more. -/
module

public import proofs.«01_k».proof.Proof.Weights

@[expose] public section

set_option maxRecDepth 16384

noncomputable section

namespace Cert.KernelIdeal.Score

open Cert.KernelIdeal Cert.KernelIdeal.Gen Idealize.ShloMosaic Idealize.ShloMosaic.TcCoe Idealize.ShloMosaic.ValueIdx

variable {F : FTy → Type} [FloatOps F]

/-- The tile of `n` rows: each entry's dot product, as a float, times the entry's weight product. -/
def tile {n : ℕ} (a b : Vec F ⟨2, ![n, 128]⟩ .i32) (w : Vec F ⟨3, ![1, n, 128]⟩ .f32)
    (h : (⟨3, ![1, n, 128]⟩ : Shape).ShapeCasts ⟨2, ![n, 128]⟩) : FVec F ⟨2, ![n, 128]⟩ .f32 :=
  fun y => FloatOps.mulf (FloatOps.sitofp .f32 (dotW (a y) (b y))) (shapeCast ⟨2, ![n, 128]⟩ w h y)

/-- The pieces `L` store pair entries, each where the pair block should hold it, and reach every row below `k`. -/
structure Pairs (x0 x1 : Vec F S744x512 .i32) (x2 : Vec F S40x512 .i32) (L : List (View.Piece (Elt F) S1x741x512 .f32)) (k : ℕ) :
    Prop where
  agree : ∀ p ∈ L, ∀ x : p.1.shape.Idx, p.2 x = pairBlk x0 x1 x2 (p.1.emb x)
  cover : ∀ y : S1x741x512.Idx, (y 1).val < k → ∃ p ∈ L, y ∈ p.1.set

section
variable {arg1 : Memref sig .tc .vmem S744x512 .i32} (harg1 : arg1.IsWhole) {arg2 : Memref sig .tc .vmem S744x512 .i32}
  (harg2 : arg2.IsWhole) {arg9 : Memref sig .tc .vmem S4x744x128 .f32} (x0 x1 : Vec F S744x512 .i32) {x2 : Vec F S40x512 .i32}
  (X9 : BufTy.Contents (Elt F) arg9.view.ty) (h9 : ∀ y : S4x744x128.Idx, (y 1).val < 741 → arg9.view.read (Elt F) X9 y = prodBuf x2 y)
  {n : ℕ} (q r : ℕ) {offa : Fin 2 → ℕ} {offw offo : Fin 3 → ℕ} (ha : offa = ![r, 128 * q]) (hw : offw = ![q, r, 0])
  (ho : offo = ![0, r, 128 * q]) (hr : r + n ≤ 741)
  (inba : ∀ a, offa a + (![n, 128] : Fin 2 → ℕ) a ≤ S744x512.size a)
  (inbw : ∀ a, offw a + (![1, n, 128] : Fin 3 → ℕ) a ≤ S4x744x128.size a)
  (inbo : ∀ a, offo a + (![1, n, 128] : Fin 3 → ℕ) a ≤ S1x741x512.size a)
  (h : (⟨3, ![1, n, 128]⟩ : Shape).ShapeCasts ⟨2, ![n, 128]⟩) (h' : (⟨2, ![n, 128]⟩ : Shape).ShapeCasts ⟨3, ![1, n, 128]⟩)

include h9 ha hw hr in
/-- A tile loaded from rows `r … r + n` and the lanes of chunk `q` holds those rows' pair entries. -/
theorem tile_eq (j : Fin n) (l : Fin 128) :
    tile (arg1.view.readAt (Elt F) (Rect.unit (s := S744x512) offa ![n, 128] inba).toLoadRect (harg1.unread x0))
      (arg2.view.readAt (Elt F) (Rect.unit (s := S744x512) offa ![n, 128] inba).toLoadRect (harg2.unread x1))
      (arg9.view.readAt (Elt F) (Rect.unit (s := S4x744x128) offw ![1, n, 128] inbw).toLoadRect X9) h (ix2 j l)
      = pairE x0 x1 x2 (r + j.val) (128 * q + l.val) := by
  subst ha hw
  unfold tile
  rw [shapeCast_1ab_ab_apply]
  have hj : j.val < n := j.isLt
  have ea : ∀ x : Vec F S744x512 .i32, x ((Rect.unit (s := S744x512) ![r, 128 * q] ![n, 128] inba).toLoadRect.idx (ix2 j l))
      = at2 x (r + j.val) (128 * q + l.val) := fun x => by
    rw [eq_at2 x]
    exact congrArg₂ (at2 x) ((show _ = r + 1 * j.val from rfl).trans (by omega)) ((show _ = 128 * q + 1 * l.val from rfl).trans (by omega))
  have e1 : ((Rect.unit (s := S4x744x128) ![q, r, 0] ![1, n, 128] inbw).toLoadRect.idx (ix3 (0 : Fin 1) j l) 1).val = r + 1 * j.val := rfl
  show FloatOps.mulf (FloatOps.sitofp .f32 (dotW (View.read (Elt F) arg1.view (harg1.unread x0) _)
    (View.read (Elt F) arg2.view (harg2.unread x1) _))) (View.read (Elt F) arg9.view X9 _) = _
  rw [harg1.read_unread, harg2.read_unread, ea x0, ea x1]
  refine congrArg (FloatOps.mulf _) ((h9 _ (by rw [e1]; omega)).trans ?_)
  exact prodBuf_of x2 _ q (r + j.val) l.val ((show _ = q + 1 * 0 from rfl).trans (by omega)) (e1.trans (by omega))
    ((show _ = 0 + 1 * l.val from rfl).trans (by omega))

include h9 ha hw hr in
/-- The running sum after a tile has been added to it. -/
theorem tile_add (acc : FVec F ⟨2, ![n, 128]⟩ .f32) :
    addf acc (tile (arg1.view.readAt (Elt F) (Rect.unit (s := S744x512) offa ![n, 128] inba).toLoadRect (harg1.unread x0))
      (arg2.view.readAt (Elt F) (Rect.unit (s := S744x512) offa ![n, 128] inba).toLoadRect (harg2.unread x1))
      (arg9.view.readAt (Elt F) (Rect.unit (s := S4x744x128) offw ![1, n, 128] inbw).toLoadRect X9) h)
      = fun y => FloatOps.addf (acc y) (pairE x0 x1 x2 (r + (y 0).val) (128 * q + (y 1).val)) := by
  funext y
  refine congrArg (FloatOps.addf (acc y)) ?_
  exact (congrArg _ (eq_ix2 (n0 := n) (n1 := 128) y)).trans (tile_eq harg1 harg2 x0 x1 X9 h9 q r ha hw hr inba inbw h (y 0) (y 1))

include h9 ha hw hr ho in
/-- A tile stored at its rows and lanes agrees with the pair block. -/
theorem tile_piece (x : (Rect.unit (s := S1x741x512) offo ![1, n, 128] inbo).shape.Idx) :
    shapeCast ⟨3, ![1, n, 128]⟩ (tile
      (arg1.view.readAt (Elt F) (Rect.unit (s := S744x512) offa ![n, 128] inba).toLoadRect (harg1.unread x0))
      (arg2.view.readAt (Elt F) (Rect.unit (s := S744x512) offa ![n, 128] inba).toLoadRect (harg2.unread x1))
      (arg9.view.readAt (Elt F) (Rect.unit (s := S4x744x128) offw ![1, n, 128] inbw).toLoadRect X9) h) h' x
      = pairBlk x0 x1 x2 ((Rect.unit (s := S1x741x512) offo ![1, n, 128] inbo).emb x) := by
  subst ho
  refine (congrArg _ (eq_ix3 (n0 := 1) (n1 := n) (n2 := 128) x)).trans ((shapeCast_ab_1ab_apply _ h' _ _ _).trans
    ((tile_eq harg1 harg2 x0 x1 X9 h9 q r ha hw hr inba inbw h (x 1) (x 2)).trans ?_))
  unfold pairBlk
  exact congrArg₂ (pairE x0 x1 x2) ((show _ = r + 1 * (x 1).val from rfl).trans (by omega)).symm
    ((show _ = 128 * q + 1 * (x 2).val from rfl).trans (by omega)).symm

end

/-- Four pieces that hold rows `r … r + n`, one for each chunk of lanes, in front of pieces that reach every row below `r`. -/
theorem Pairs.four {x0 x1 : Vec F S744x512 .i32} {x2 : Vec F S40x512 .i32} {L : List (View.Piece (Elt F) S1x741x512 .f32)} {r : ℕ}
    (hL : Pairs x0 x1 x2 L r) (n : ℕ) {o0 o1 o2 o3 : Fin 3 → ℕ}
    (e0 : o0 = ![0, r, 0]) (e1 : o1 = ![0, r, 128]) (e2 : o2 = ![0, r, 256]) (e3 : o3 = ![0, r, 384])
    (b0 : ∀ a, o0 a + (![1, n, 128] : Fin 3 → ℕ) a ≤ S1x741x512.size a) (b1 : ∀ a, o1 a + (![1, n, 128] : Fin 3 → ℕ) a ≤ S1x741x512.size a)
    (b2 : ∀ a, o2 a + (![1, n, 128] : Fin 3 → ℕ) a ≤ S1x741x512.size a) (b3 : ∀ a, o3 a + (![1, n, 128] : Fin 3 → ℕ) a ≤ S1x741x512.size a)
    (P0 P1 P2 P3 : (⟨3, ![1, n, 128]⟩ : Shape).Idx → F .f32)
    (h0 : ∀ x, P0 x = pairBlk x0 x1 x2 ((Rect.unit (s := S1x741x512) o0 ![1, n, 128] b0).emb x))
    (h1 : ∀ x, P1 x = pairBlk x0 x1 x2 ((Rect.unit (s := S1x741x512) o1 ![1, n, 128] b1).emb x))
    (h2 : ∀ x, P2 x = pairBlk x0 x1 x2 ((Rect.unit (s := S1x741x512) o2 ![1, n, 128] b2).emb x))
    (h3 : ∀ x, P3 x = pairBlk x0 x1 x2 ((Rect.unit (s := S1x741x512) o3 ![1, n, 128] b3).emb x)) :
    Pairs x0 x1 x2 (⟨Rect.unit (s := S1x741x512) o3 ![1, n, 128] b3, P3⟩ :: ⟨Rect.unit (s := S1x741x512) o2 ![1, n, 128] b2, P2⟩
      :: ⟨Rect.unit (s := S1x741x512) o1 ![1, n, 128] b1, P1⟩ :: ⟨Rect.unit (s := S1x741x512) o0 ![1, n, 128] b0, P0⟩ :: L) (r + n) where
  agree := List.forall_mem_cons.2 ⟨h3, List.forall_mem_cons.2 ⟨h2, List.forall_mem_cons.2 ⟨h1, List.forall_mem_cons.2 ⟨h0, hL.agree⟩⟩⟩⟩
  cover y hy := by
    by_cases hlt : (y 1).val < r
    · obtain ⟨p, hp, hyp⟩ := hL.cover y hlt
      exact ⟨p, List.mem_cons_of_mem _ (List.mem_cons_of_mem _ (List.mem_cons_of_mem _ (List.mem_cons_of_mem _ hp))), hyp⟩
    · subst e0 e1 e2 e3
      have hy0 : (y 0).val < 1 := (y 0).isLt
      have hy2 : (y 2).val < 512 := (y 2).isLt
      have hin : ∀ (col : ℕ) (b : ∀ a, (![0, r, col] : Fin 3 → ℕ) a + (![1, n, 128] : Fin 3 → ℕ) a ≤ S1x741x512.size a),
          col ≤ (y 2).val → (y 2).val < col + 128 → y ∈ (Rect.unit (s := S1x741x512) ![0, r, col] ![1, n, 128] b).set := by
        intro col b hc hc'
        rw [Rect.mem_set_unit]
        intro a
        match a with
        | ⟨0, _⟩ => exact ⟨Nat.zero_le _, show (y 0).val < 0 + 1 by omega⟩
        | ⟨1, _⟩ => exact ⟨show r ≤ (y 1).val by omega, hy⟩
        | ⟨2, _⟩ => exact ⟨hc, hc'⟩
      by_cases c1 : (y 2).val < 128
      · exact ⟨_, List.mem_cons_of_mem _ (List.mem_cons_of_mem _ (List.mem_cons_of_mem _ List.mem_cons_self)), hin 0 b0 (by omega) (by omega)⟩
      by_cases c2 : (y 2).val < 256
      · exact ⟨_, List.mem_cons_of_mem _ (List.mem_cons_of_mem _ List.mem_cons_self), hin 128 b1 (by omega) (by omega)⟩
      by_cases c3 : (y 2).val < 384
      · exact ⟨_, List.mem_cons_of_mem _ List.mem_cons_self, hin 256 b2 (by omega) (by omega)⟩
      · exact ⟨_, List.mem_cons_self, hin 384 b3 (by omega) (by omega)⟩

end Cert.KernelIdeal.Score

end
-- ==== Proof.Trips.lean ====
/- The loop: 92 trips, each of which stores eight pair rows in four chunks of lanes and adds them to four running sums. -/
module

public import proofs.«01_k».proof.Proof.Tile

@[expose] public section

set_option maxRecDepth 16384

noncomputable section

namespace Cert.KernelIdeal.Score

open Cert.KernelIdeal Cert.KernelIdeal.Gen Idealize.ShloMosaic Idealize.ShloMosaic.TcCoe Idealize.ShloMosaic.ValueIdx

variable {F : FTy → Type} [FloatOps F]

/-- The loop makes 92 trips. -/
theorem trips_eq : k0_t1_loop.trips = 92 := by decide +kernel

section
variable (𝒱 : Variants) (c : Dev nD) (bd : Option 𝒱.V) (i : grid0.Coords)
  (arg1 : Memref sig .tc .vmem S744x512 .i32) (harg1 : arg1.IsWhole) (arg2 : Memref sig .tc .vmem S744x512 .i32) (harg2 : arg2.IsWhole)
  (arg3 : Memref sig .tc .vmem S40x512 .i32) (harg3 : arg3.IsWhole) (arg4 : Memref sig .tc .vmem S40x512 .i32) (harg4 : arg4.IsWhole)
  (arg5 : Memref sig .tc .smem S1 .f32) (harg5 : arg5.IsWhole) (arg6 : Memref sig .tc .vmem S1x741x512 .f32) (harg6 : arg6.IsWhole)
  (arg7 : Memref sig .tc .vmem S1x1x512 .f32) (harg7 : arg7.IsWhole) (arg8 : Memref sig .tc .vmem S4x40x128 .f32) (harg8 : arg8.IsWhole)
  (arg9 : Memref sig .tc .vmem S4x744x128 .f32) (harg9 : arg9.IsWhole)
  (v1384 v1385 v1386 v1387 : FVec F S8x128 .f32) (z : BitVec 32)
  (x0 x1 : Vec F S744x512 .i32) {x2 : Vec F S40x512 .i32}
  (X9 : BufTy.Contents (Elt F) arg9.view.ty) (h9 : ∀ y : S4x744x128.Idx, (y 1).val < 741 → arg9.view.read (Elt F) X9 y = prodBuf x2 y)
include h9

/-- What a trip yields: each running sum with the trip's eight rows of its chunk added. -/
theorem trip_yield (k : Fin k0_t1_loop.trips) (acc : FVec F S8x128 .f32 × FVec F S8x128 .f32 × FVec F S8x128 .f32 × FVec F S8x128 .f32) :
    tripR_k0_t1 𝒱 c bd i arg1 harg1 arg2 harg2 arg3 harg3 arg4 harg4 arg5 harg5 arg6 harg6 arg7 harg7 arg8 harg8 arg9 harg9
      v1384 v1385 v1386 v1387 z (harg1.unread x0) (harg2.unread x1) X9 k acc
    = (fun y => FloatOps.addf (acc.1 y) (pairE x0 x1 x2 (8 * k.val + (y 0).val) (128 * 0 + (y 1).val)),
       fun y => FloatOps.addf (acc.2.1 y) (pairE x0 x1 x2 (8 * k.val + (y 0).val) (128 * 1 + (y 1).val)),
       fun y => FloatOps.addf (acc.2.2.1 y) (pairE x0 x1 x2 (8 * k.val + (y 0).val) (128 * 2 + (y 1).val)),
       fun y => FloatOps.addf (acc.2.2.2 y) (pairE x0 x1 x2 (8 * k.val + (y 0).val) (128 * 3 + (y 1).val))) := by
  have hk : k.val < 92 := trips_eq ▸ k.isLt
  unfold tripR_k0_t1 trip_k0_t1
  refine Prod.ext ?_ (Prod.ext ?_ (Prod.ext ?_ ?_))
  · exact tile_add harg1 harg2 x0 x1 X9 h9 0 (8 * k.val) (k0_off1_eq k) (k0_off2_eq k) (by omega) (k0_off1_inb k) (k0_off2_inb k)
      shapeCasts_S1x8x128_S8x128 acc.1
  · exact tile_add harg1 harg2 x0 x1 X9 h9 1 (8 * k.val) (k0_off4_eq k) (k0_off5_eq k) (by omega) (k0_off4_inb k) (k0_off5_inb k)
      shapeCasts_S1x8x128_S8x128 acc.2.1
  · exact tile_add harg1 harg2 x0 x1 X9 h9 2 (8 * k.val) (k0_off7_eq k) (k0_off8_eq k) (by omega) (k0_off7_inb k) (k0_off8_inb k)
      shapeCasts_S1x8x128_S8x128 acc.2.2.1
  · exact tile_add harg1 harg2 x0 x1 X9 h9 3 (8 * k.val) (k0_off10_eq k) (k0_off11_eq k) (by omega) (k0_off10_inb k) (k0_off11_inb k)
      shapeCasts_S1x8x128_S8x128 acc.2.2.2

/-- What a trip stores: the eight rows, in front of the rows before. -/
theorem trip_stores (k : Fin k0_t1_loop.trips) (acc : FVec F S8x128 .f32 × FVec F S8x128 .f32 × FVec F S8x128 .f32 × FVec F S8x128 .f32)
    {L : List (View.Piece (Elt F) S1x741x512 .f32)} (hL : Pairs x0 x1 x2 L (8 * k.val)) :
    Pairs x0 x1 x2 (tripL_k0_t1 𝒱 c bd i arg1 harg1 arg2 harg2 arg3 harg3 arg4 harg4 arg5 harg5 arg6 harg6 arg7 harg7 arg8 harg8 arg9 harg9
      v1384 v1385 v1386 v1387 z (harg1.unread x0) (harg2.unread x1) X9 k acc ++ L) (8 * k.val + 8) := by
  have hk : k.val < 92 := trips_eq ▸ k.isLt
  unfold tripL_k0_t1 trip_k0_t1
  exact hL.four 8 (k0_off3_eq k) (k0_off6_eq k) (k0_off9_eq k) (k0_off12_eq k) (k0_off3_inb k) (k0_off6_inb k) (k0_off9_inb k)
    (k0_off12_inb k) _ _ _ _
    (tile_piece harg1 harg2 x0 x1 X9 h9 0 (8 * k.val) (k0_off1_eq k) (k0_off2_eq k) (k0_off3_eq k) (by omega) (k0_off1_inb k)
      (k0_off2_inb k) (k0_off3_inb k) shapeCasts_S1x8x128_S8x128 shapeCasts_S8x128_S1x8x128)
    (tile_piece harg1 harg2 x0 x1 X9 h9 1 (8 * k.val) (k0_off4_eq k) (k0_off5_eq k) (k0_off6_eq k) (by omega) (k0_off4_inb k)
      (k0_off5_inb k) (k0_off6_inb k) shapeCasts_S1x8x128_S8x128 shapeCasts_S8x128_S1x8x128)
    (tile_piece harg1 harg2 x0 x1 X9 h9 2 (8 * k.val) (k0_off7_eq k) (k0_off8_eq k) (k0_off9_eq k) (by omega) (k0_off7_inb k)
      (k0_off8_inb k) (k0_off9_inb k) shapeCasts_S1x8x128_S8x128 shapeCasts_S8x128_S1x8x128)
    (tile_piece harg1 harg2 x0 x1 X9 h9 3 (8 * k.val) (k0_off10_eq k) (k0_off11_eq k) (k0_off12_eq k) (by omega) (k0_off10_inb k)
      (k0_off11_inb k) (k0_off12_inb k) shapeCasts_S1x8x128_S8x128 shapeCasts_S8x128_S1x8x128)

/-- The state after `k` trips: the running sums, and the pieces of the rows below `8 k`. -/
theorem st_vals : ∀ k : ℕ, k ≤ 92 →
    (st_k0_t1 𝒱 c bd i arg1 harg1 arg2 harg2 arg3 harg3 arg4 harg4 arg5 harg5 arg6 harg6 arg7 harg7 arg8 harg8 arg9 harg9
      v1384 v1385 v1386 v1387 z (harg1.unread x0) (harg2.unread x1) X9
      (k0_pay227, k0_pay228, k0_pay229, k0_pay230) k).1 = (accE x0 x1 x2 0 k, accE x0 x1 x2 1 k, accE x0 x1 x2 2 k, accE x0 x1 x2 3 k) ∧
    Pairs x0 x1 x2 (st_k0_t1 𝒱 c bd i arg1 harg1 arg2 harg2 arg3 harg3 arg4 harg4 arg5 harg5 arg6 harg6 arg7 harg7 arg8 harg8 arg9 harg9
      v1384 v1385 v1386 v1387 z (harg1.unread x0) (harg2.unread x1) X9
      (k0_pay227, k0_pay228, k0_pay229, k0_pay230) k).2 (8 * k)
  | 0, _ => ⟨rfl, ⟨fun p hp => absurd hp List.not_mem_nil, fun y hy => absurd hy (by omega)⟩⟩
  | k + 1, hk => by
    obtain ⟨hv, hP⟩ := st_vals k (by omega)
    have e := st_k0_t1_succ 𝒱 c bd i arg1 harg1 arg2 harg2 arg3 harg3 arg4 harg4 arg5 harg5 arg6 harg6 arg7 harg7 arg8 harg8 arg9 harg9
      v1384 v1385 v1386 v1387 z (harg1.unread x0) (harg2.unread x1) X9 (k0_pay227, k0_pay228, k0_pay229, k0_pay230)
      ⟨k, by rw [trips_eq]; omega⟩
    rw [show k + 1 = (⟨k, by rw [trips_eq]; omega⟩ : Fin k0_t1_loop.trips).val + 1 from rfl, e]
    refine ⟨?_, trip_stores 𝒱 c bd i arg1 harg1 arg2 harg2 arg3 harg3 arg4 harg4 arg5 harg5 arg6 harg6 arg7 harg7 arg8 harg8 arg9 harg9
      v1384 v1385 v1386 v1387 z x0 x1 X9 h9 ⟨k, by rw [trips_eq]; omega⟩ _ hP⟩
    refine (trip_yield 𝒱 c bd i arg1 harg1 arg2 harg2 arg3 harg3 arg4 harg4 arg5 harg5 arg6 harg6 arg7 harg7 arg8 harg8 arg9 harg9
      v1384 v1385 v1386 v1387 z x0 x1 X9 h9 ⟨k, by rw [trips_eq]; omega⟩ _).trans ?_
    rw [hv]
    rfl

end

end Cert.KernelIdeal.Score

end
-- ==== Proof.Block.lean ====
/- What the body leaves in the two results' blocks: the pair block and the logit block, as formulas of the inputs' blocks. Neither mentions
   what the scratch buffers held before. -/
module

public import proofs.«01_k».proof.Proof.Products
public import proofs.«01_k».proof.Proof.Trips

@[expose] public section

set_option maxRecDepth 16384

noncomputable section

namespace Cert.KernelIdeal.Score

open Cert.KernelIdeal Cert.KernelIdeal.Gen Idealize.ShloMosaic Idealize.ShloMosaic.TcCoe Idealize.ShloMosaic.ValueIdx

variable {F : FTy → Type} [FloatOps F]

/-- The logit of chunk `q`: the running sums after the loop added up over the eight sublanes, the five rows that are left, the linear
    weights, and the bias. -/
def logitChunk (x0 x1 : Vec F S744x512 .i32) (x2 x3 : Vec F S40x512 .i32) (x4 : Vec F S1 .f32) (q : ℕ) : S1x1x128.Idx → F .f32 :=
  k0_pay242 (accE x0 x1 x2 q 92) (restE x0 x1 x2 q) (linE x3 q) (x4 (ix1 0))

/-- The logit result's block. -/
def logitBlk (x0 x1 : Vec F S744x512 .i32) (x2 x3 : Vec F S40x512 .i32) (x4 : Vec F S1 .f32) : S1x1x512.Idx → F .f32 :=
  fun y => logitChunk x0 x1 x2 x3 x4 ((y 2).val / 128) (ix3 0 0 (Fin.ofNat 128 (y 2).val))

/-- A chunk's logits, stored at the chunk's lanes, agree with the logit block. -/
theorem logit_piece (x0 x1 : Vec F S744x512 .i32) (x2 x3 : Vec F S40x512 .i32) (x4 : Vec F S1 .f32) (q : ℕ)
    (inb : ∀ a, (![0, 0, 128 * q] : Fin 3 → ℕ) a + (![1, 1, 128] : Fin 3 → ℕ) a ≤ S1x1x512.size a)
    (A : FVec F S8x128 .f32) (R : FVec F S5x128 .f32) (N : FVec F S39x128 .f32) (b : F .f32)
    (hA : A = accE x0 x1 x2 q 92) (hR : R = restE x0 x1 x2 q) (hN : N = linE x3 q) (hb : b = x4 (ix1 0))
    (x : (Rect.unit (s := S1x1x512) ![0, 0, 128 * q] ![1, 1, 128] inb).shape.Idx) :
    k0_pay242 A R N b x = logitBlk x0 x1 x2 x3 x4 ((Rect.unit (s := S1x1x512) ![0, 0, 128 * q] ![1, 1, 128] inb).emb x) := by
  subst hA hR hN hb
  have hx : (x 2).val < 128 := (x 2).isLt
  have e : ((Rect.unit (s := S1x1x512) ![0, 0, 128 * q] ![1, 1, 128] inb).emb x 2).val = 128 * q + 1 * (x 2).val := rfl
  unfold logitBlk
  rw [e, show (128 * q + 1 * (x 2).val) / 128 = q by omega]
  unfold logitChunk
  refine congrArg _ ((eq_ix3 (n0 := 1) (n1 := 1) (n2 := 128) x).trans ?_)
  have h0 : x 0 = (0 : Fin 1) := Subsingleton.elim (α := Fin 1) _ _
  have h1 : x 1 = (0 : Fin 1) := Subsingleton.elim (α := Fin 1) _ _
  have h2 : x 2 = Fin.ofNat 128 (128 * q + 1 * (x 2).val) :=
    Fin.ext (show (x 2).val = (128 * q + 1 * (x 2).val) % 128 by omega)
  exact congr (congrArg₂ ix3 h0 h1) h2

section
variable (c : Dev nD) (i : grid0.Coords)
  (arg1 : Memref sig .tc .vmem S744x512 .i32) (harg1 : arg1.IsWhole) (arg2 : Memref sig .tc .vmem S744x512 .i32) (harg2 : arg2.IsWhole)
  (arg3 : Memref sig .tc .vmem S40x512 .i32) (harg3 : arg3.IsWhole) (arg4 : Memref sig .tc .vmem S40x512 .i32) (harg4 : arg4.IsWhole)
  (arg5 : Memref sig .tc .smem S1 .f32) (harg5 : arg5.IsWhole) (arg6 : Memref sig .tc .vmem S1x741x512 .f32) (harg6 : arg6.IsWhole)
  (arg7 : Memref sig .tc .vmem S1x1x512 .f32) (harg7 : arg7.IsWhole) (arg8 : Memref sig .tc .vmem S4x40x128 .f32) (harg8 : arg8.IsWhole)
  (arg9 : Memref sig .tc .vmem S4x744x128 .f32) (harg9 : arg9.IsWhole)
  (x0 x1 : Vec F S744x512 .i32) (x2 x3 : Vec F S40x512 .i32) (x4 : Vec F S1 .f32) (x9 : Vec F S4x744x128 .f32)

/-- The product scratch with the body's stores over any contents, read below row 741. -/
theorem prods (f : BufTy.Contents (Elt F) arg9.view.ty) (y : S4x744x128.Idx) (hy : (y 1).val < 741) :
    arg9.view.read (Elt F) (arg9.view.writes (Elt F) f (kernelRun c i arg1 harg1 arg2 harg2 arg3 harg3 arg4 harg4 arg5 harg5 arg6 harg6
      arg7 harg7 arg8 harg8 arg9 harg9 x0 x1 x2 x3 x4 x9).2.2.2.1) y = prodBuf x2 y :=
  prod_read c i arg1 harg1 arg2 harg2 arg3 harg3 arg4 harg4 arg5 harg5 arg6 harg6 arg7 harg7 arg8 harg8 arg9 harg9 x0 x1 x2 x3 x4 x9
    arg9.view f y hy

/-- The loop's state after its last trip. -/
theorem st_end (k : ℕ) (hk : k = 92) :
    (st_k0_t1 Variants.none c none i arg1 harg1 arg2 harg2 arg3 harg3 arg4 harg4 arg5 harg5 arg6 harg6 arg7 harg7 arg8 harg8 arg9 harg9
      k0_pay227 k0_pay228 k0_pay229 k0_pay230 0#32 (harg1.unread x0) (harg2.unread x1) (arg9.view.writes (Elt F) (harg9.unread x9)
        (kernelRun c i arg1 harg1 arg2 harg2 arg3 harg3 arg4 harg4 arg5 harg5 arg6 harg6 arg7 harg7 arg8 harg8 arg9 harg9
          x0 x1 x2 x3 x4 x9).2.2.2.1)
      (k0_pay227, k0_pay228, k0_pay229, k0_pay230) k).1 = (accE x0 x1 x2 0 92, accE x0 x1 x2 1 92, accE x0 x1 x2 2 92, accE x0 x1 x2 3 92) ∧
    Pairs x0 x1 x2 (st_k0_t1 Variants.none c none i arg1 harg1 arg2 harg2 arg3 harg3 arg4 harg4 arg5 harg5 arg6 harg6 arg7 harg7 arg8 harg8
      arg9 harg9 k0_pay227 k0_pay228 k0_pay229 k0_pay230 0#32 (harg1.unread x0) (harg2.unread x1) (arg9.view.writes (Elt F)
        (harg9.unread x9) (kernelRun c i arg1 harg1 arg2 harg2 arg3 harg3 arg4 harg4 arg5 harg5 arg6 harg6 arg7 harg7 arg8 harg8 arg9 harg9
          x0 x1 x2 x3 x4 x9).2.2.2.1)
      (k0_pay227, k0_pay228, k0_pay229, k0_pay230) k).2 736 := by
  subst hk
  exact st_vals Variants.none c none i arg1 harg1 arg2 harg2 arg3 harg3 arg4 harg4 arg5 harg5 arg6 harg6 arg7 harg7 arg8 harg8 arg9 harg9
    _ _ _ _ _ x0 x1 _ (prods c i arg1 harg1 arg2 harg2 arg3 harg3 arg4 harg4 arg5 harg5 arg6 harg6 arg7 harg7 arg8 harg8 arg9 harg9
      x0 x1 x2 x3 x4 x9 _) 92 (le_refl _)

/-- The pieces left in the pair block hold the pair entries, and reach every row. -/
theorem pairs_run : Pairs x0 x1 x2 (kernelRun c i arg1 harg1 arg2 harg2 arg3 harg3 arg4 harg4 arg5 harg5 arg6 harg6 arg7 harg7 arg8 harg8
    arg9 harg9 x0 x1 x2 x3 x4 x9).1 741 := by
  have h9 := prods c i arg1 harg1 arg2 harg2 arg3 harg3 arg4 harg4 arg5 harg5 arg6 harg6 arg7 harg7 arg8 harg8 arg9 harg9
    x0 x1 x2 x3 x4 x9 arg9.view.junk
  have hst := (st_end c i arg1 harg1 arg2 harg2 arg3 harg3 arg4 harg4 arg5 harg5 arg6 harg6 arg7 harg7 arg8 harg8 arg9 harg9
    x0 x1 x2 x3 x4 x9 (Scf.trips k0_t1_loop.lb k0_t1_loop.ub k0_t1_loop.st) trips_eq).2
  exact hst.four 5 rfl rfl rfl rfl (by decide) (by decide) (by decide) (by decide) _ _ _ _
    (tile_piece harg1 harg2 x0 x1 _ h9 0 736 rfl rfl rfl (by decide) (by decide) (by decide) (by decide) (by decide) (by decide))
    (tile_piece harg1 harg2 x0 x1 _ h9 1 736 rfl rfl rfl (by decide) (by decide) (by decide) (by decide) (by decide) (by decide))
    (tile_piece harg1 harg2 x0 x1 _ h9 2 736 rfl rfl rfl (by decide) (by decide) (by decide) (by decide) (by decide) (by decide))
    (tile_piece harg1 harg2 x0 x1 _ h9 3 736 rfl rfl rfl (by decide) (by decide) (by decide) (by decide) (by decide) (by decide))

/-- The five rows left after the loop, in chunk `q`. -/
theorem rest_eq (X9 : BufTy.Contents (Elt F) arg9.view.ty)
    (h9 : ∀ y : S4x744x128.Idx, (y 1).val < 741 → arg9.view.read (Elt F) X9 y = prodBuf x2 y) (q : ℕ)
    (inba : ∀ a, (![736, 128 * q] : Fin 2 → ℕ) a + (![5, 128] : Fin 2 → ℕ) a ≤ S744x512.size a)
    (inbw : ∀ a, (![q, 736, 0] : Fin 3 → ℕ) a + (![1, 5, 128] : Fin 3 → ℕ) a ≤ S4x744x128.size a)
    (h : (⟨3, ![1, 5, 128]⟩ : Shape).ShapeCasts ⟨2, ![5, 128]⟩) :
    tile (arg1.view.readAt (Elt F) (Rect.unit (s := S744x512) ![736, 128 * q] ![5, 128] inba).toLoadRect (harg1.unread x0))
      (arg2.view.readAt (Elt F) (Rect.unit (s := S744x512) ![736, 128 * q] ![5, 128] inba).toLoadRect (harg2.unread x1))
      (arg9.view.readAt (Elt F) (Rect.unit (s := S4x744x128) ![q, 736, 0] ![1, 5, 128] inbw).toLoadRect X9) h = restE x0 x1 x2 q := by
  funext y
  exact (congrArg _ (eq_ix2 (n0 := 5) (n1 := 128) y)).trans
    (tile_eq harg1 harg2 x0 x1 X9 h9 q 736 rfl rfl (by decide) inba inbw h (y 0) (y 1))

/-- The linear weights of chunk `q`. -/
theorem lin_eq (q : ℕ) (inb : ∀ a, (![0, 128 * q] : Fin 2 → ℕ) a + (![39, 128] : Fin 2 → ℕ) a ≤ S40x512.size a) :
    (bitcastToFloat .f32 (arg4.view.readAt (Elt F) (Rect.unit (s := S40x512) ![0, 128 * q] ![39, 128] inb).toLoadRect (harg4.unread x3))
      : FVec F S39x128 .f32) = linE x3 q := by
  funext y
  show FloatOps.ofBits .f32 (View.read (Elt F) arg4.view (harg4.unread x3) _) = FloatOps.ofBits .f32 _
  rw [harg4.read_unread, eq_at2 x3]
  exact congrArg (FloatOps.ofBits (F := F) .f32) (congrArg₂ (at2 x3)
    ((show _ = 0 + 1 * (y 0).val from rfl).trans (by omega)) ((show _ = 128 * q + 1 * (y 1).val from rfl).trans (by omega)))

/-- The bias. -/
theorem bias_eq : kernelRun.sl.r_50 c arg5 harg5 x4 = x4 (ix1 0) := by
  show View.read (Elt F) arg5.view (harg5.unread x4) _ = _
  rw [harg5.read_unread]
  exact congrArg x4 (funext fun a => Fin.ext (by
    match a with
    | ⟨0, _⟩ => exact (show _ = 0 + 1 * 0 from rfl)))

/-- The pieces left in the logit block hold the logits. -/
theorem logit_agree : ∀ pc ∈ (kernelRun c i arg1 harg1 arg2 harg2 arg3 harg3 arg4 harg4 arg5 harg5 arg6 harg6 arg7 harg7 arg8 harg8 arg9
    harg9 x0 x1 x2 x3 x4 x9).2.1, ∀ x, pc.2 x = logitBlk x0 x1 x2 x3 x4 (pc.1.emb x) := by
  have h9 := prods c i arg1 harg1 arg2 harg2 arg3 harg3 arg4 harg4 arg5 harg5 arg6 harg6 arg7 harg7 arg8 harg8 arg9 harg9
    x0 x1 x2 x3 x4 x9 arg9.view.junk
  have hst := (st_end c i arg1 harg1 arg2 harg2 arg3 harg3 arg4 harg4 arg5 harg5 arg6 harg6 arg7 harg7 arg8 harg8 arg9 harg9
    x0 x1 x2 x3 x4 x9 (Scf.trips k0_t1_loop.lb k0_t1_loop.ub k0_t1_loop.st) trips_eq).1
  have hrest := fun q => rest_eq arg1 harg1 arg2 harg2 arg9 x0 x1 x2 _ h9 q
  have hlin := fun q => lin_eq arg4 harg4 x3 q
  have hb := bias_eq c arg5 harg5 x4
  refine List.forall_mem_cons.2 ⟨logit_piece x0 x1 x2 x3 x4 3 (by decide) _ _ _ _ (congrArg (fun t => t.2.2.2) hst)
    (hrest 3 (by decide) (by decide) (by decide)) (hlin 3 (by decide)) hb, ?_⟩
  refine List.forall_mem_cons.2 ⟨logit_piece x0 x1 x2 x3 x4 2 (by decide) _ _ _ _ (congrArg (fun t => t.2.2.1) hst)
    (hrest 2 (by decide) (by decide) (by decide)) (hlin 2 (by decide)) hb, ?_⟩
  refine List.forall_mem_cons.2 ⟨logit_piece x0 x1 x2 x3 x4 1 (by decide) _ _ _ _ (congrArg (fun t => t.2.1) hst)
    (hrest 1 (by decide) (by decide) (by decide)) (hlin 1 (by decide)) hb, ?_⟩
  refine List.forall_mem_cons.2 ⟨logit_piece x0 x1 x2 x3 x4 0 (by decide) _ _ _ _ (congrArg (fun t => t.1) hst)
    (hrest 0 (by decide) (by decide) (by decide)) (hlin 0 (by decide)) hb, ?_⟩
  exact List.forall_mem_nil _

/-- They reach every lane. -/
theorem logit_cover (y : S1x1x512.Idx) : ∃ pc ∈ (kernelRun c i arg1 harg1 arg2 harg2 arg3 harg3 arg4 harg4 arg5 harg5 arg6 harg6 arg7
    harg7 arg8 harg8 arg9 harg9 x0 x1 x2 x3 x4 x9).2.1, y ∈ pc.1.set :=
  View.cover_of_tiledBy _ ![1, 1, 128] (by sl_kernel_rfl) y

/-- The pair buffer after the body. -/
theorem read_pair (v : View sig .tc .vmem S1x741x512 .f32) (f : BufTy.Contents (Elt F) v.ty) :
    v.read (Elt F) (v.writes (Elt F) f (kernelRun c i arg1 harg1 arg2 harg2 arg3 harg3 arg4 harg4 arg5 harg5 arg6 harg6 arg7 harg7 arg8
      harg8 arg9 harg9 x0 x1 x2 x3 x4 x9).1) = pairBlk x0 x1 x2 := by
  have h := pairs_run c i arg1 harg1 arg2 harg2 arg3 harg3 arg4 harg4 arg5 harg5 arg6 harg6 arg7 harg7 arg8 harg8 arg9 harg9
    x0 x1 x2 x3 x4 x9
  funext y
  exact View.read_writes_apply_of_pieces v f _ _ h.agree y (h.cover y (y 1).isLt)

/-- The logit buffer after the body. -/
theorem read_logit (v : View sig .tc .vmem S1x1x512 .f32) (f : BufTy.Contents (Elt F) v.ty) :
    v.read (Elt F) (v.writes (Elt F) f (kernelRun c i arg1 harg1 arg2 harg2 arg3 harg3 arg4 harg4 arg5 harg5 arg6 harg6 arg7 harg7 arg8
      harg8 arg9 harg9 x0 x1 x2 x3 x4 x9).2.1) = logitBlk x0 x1 x2 x3 x4 := by
  funext y
  exact View.read_writes_apply_of_pieces v f _ _ (logit_agree c i arg1 harg1 arg2 harg2 arg3 harg3 arg4 harg4 arg5 harg5 arg6 harg6 arg7
    harg7 arg8 harg8 arg9 harg9 x0 x1 x2 x3 x4 x9) y (logit_cover c i arg1 harg1 arg2 harg2 arg3 harg3 arg4 harg4 arg5 harg5 arg6 harg6
    arg7 harg7 arg8 harg8 arg9 harg9 x0 x1 x2 x3 x4 x9 y)

end

end Cert.KernelIdeal.Score

end
-- ==== Proof.Frame.lean ====
/- The frame: the body's obligation at every grid point, the run of the whole call, and the argument arrays unchanged at its end. The two
   results' blocks are stated as formulas of the inputs' blocks, so that the run also says what the results hold. -/
module

public import proofs.«01_k».proof.Proof.Block
public import Idealize.ShloMosaic.Lib.Claim

@[expose] public section

set_option maxRecDepth 16384

noncomputable section

namespace Cert.KernelIdeal.Score

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's invariant with the scratch operands as memrefs owned at some contents: what the body is handed and gives back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## The pipeline's proof data -/

/-- The proof data of the one pipeline on core `c`: the arrays as the region finds them (`V`); after the body at
    point `t` each input's buffer at its block, the pair result's at `pairBlk` and the logit result's at `logitBlk`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => pairBlk (iblk m c 0 t) (iblk m c 1 t) (iblk m c 2 t)
    | ⟨6, _⟩ => logitBlk (iblk m c 0 t) (iblk m c 1 t) (iblk m c 2 t) (iblk m c 3 t) (iblk m c 4 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = pairBlk (iblk m c 0 t) (iblk m c 1 t) (iblk m c 2 t) := by dsimp only [dats]
theorem after0_6 (c : Dev nD) (t : Fin cfg0.N) : (dats m 0 c).after 6 t = logitBlk (iblk m c 0 t) (iblk m c 1 t) (iblk m c 2 t) (iblk m c 3 t) (iblk m c 4 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, ⟨%d9, HS1⟩⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun c (grid0.coords t) _ _ _ _ _ _ _ _ _ _ _ _ _ _ _ _ _ _ (iblk m c 0 t) (iblk m c 1 t) (iblk m c 2 t) (iblk m c 3 t)
    (iblk m c 4 t) d9).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  iintro ⟨H0, H1, H2, H3, H4, ⟨%e5, H5⟩, ⟨%e6, H6⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact read_pair c _ _ _ _ _ _ _ _ _ _ _ _ _ _ _ _ _ _ _ _ _ _ _ _ _ _ _
  unfold owns; iexists _; isplitr
  swap; · iexact H6
  ipureintro; exact read_logit c _ _ _ _ _ _ _ _ _ _ _ _ _ _ _ _ _ _ _ _ _ _ _ _ _ _ _

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the argument arrays end unchanged and every counter is back at zero, at any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Score

end
-- ==== Proof.Value.lean ====
/- What the call leaves in its two result arrays, as formulas of the whole arguments: block by block the arrays hold what the grid points
   wrote back, and the seven blocks fill them. -/
module

public import proofs.«01_k».proof.Proof.Frame
public import Idealize.ShloMosaic.Lib.Pipeline.Value

@[expose] public section

set_option maxRecDepth 16384

noncomputable section

namespace Cert.KernelIdeal.Score

open Cert.KernelIdeal Cert.KernelIdeal.Gen Idealize.ShloMosaic Idealize.ShloMosaic.TcCoe Idealize.SL.Sem Idealize.ShloMosaic.ValueIdx
open Idealize.ShloMosaic.Pipeline (Dat)

variable {F : FTy → Type} [FloatOps F]

/-! ## The results as formulas of the arguments -/

/-- Columns `512 t … 512 t + 511` of an array. -/
def colBlk {α : Type} {n : ℕ} [NeZero n] (x : (⟨2, ![n, 3584]⟩ : Shape).Idx → α) (t : ℕ) : (⟨2, ![n, 512]⟩ : Shape).Idx → α :=
  fun y => at2 x (y 0).val (512 * t + (y 1).val)

/-- The pair result. -/
def pairAll (p q : Vec F S744x3584 .i32) (w : Vec F S40x3584 .i32) : S7x741x512.Idx → F .f32 :=
  fun i => pairBlk (F := F) (colBlk p (i 0).val) (colBlk q (i 0).val) (colBlk w (i 0).val) (ix3 0 (i 1) (i 2))

/-- The logit result. -/
def logitAll (p q : Vec F S744x3584 .i32) (w x : Vec F S40x3584 .i32) (b : Vec F S1 .f32) : S7x1x512.Idx → F .f32 :=
  fun i => logitBlk (F := F) (colBlk p (i 0).val) (colBlk q (i 0).val) (colBlk w (i 0).val) (colBlk x (i 0).val) b (ix3 0 0 (i 2))

variable (m : (ℓ : Loc nD τ sig) → Buf (Elt F) ℓ) (ρ : Dev nD → PrngReg)

/-! ## The inputs' blocks -/

/-- The column-block windows are at block row 0, block column the grid point. -/
theorem index_in : ∀ t : Fin grid0.N, (win0_0.index t 0 = 0 ∧ win0_0.index t 1 = t.val) ∧ (win0_1.index t 0 = 0 ∧ win0_1.index t 1 = t.val)
    ∧ (win0_2.index t 0 = 0 ∧ win0_2.index t 1 = t.val) ∧ (win0_3.index t 0 = 0 ∧ win0_3.index t 1 = t.val) ∧ win0_4.index t 0 = 0 := by
  decide +kernel

/-- The result windows are at the grid point's page. -/
theorem index_out : ∀ t : Fin grid0.N, (win0_5.index t 0 = t.val ∧ win0_5.index t 1 = 0 ∧ win0_5.index t 2 = 0)
    ∧ (win0_6.index t 0 = t.val ∧ win0_6.index t 1 = 0 ∧ win0_6.index t 2 = 0) := by
  decide +kernel

/-- Input 0's block at point `t`: the columns of point `t` of the first codes. -/
theorem iblk_0 (c : Dev nD) (t : Fin cfg0.N) : iblk m c 0 t = colBlk (m ((c : Thread nD τ).loc main_arg0)) t.val := by
  funext y
  obtain ⟨h, -⟩ := index_in t
  have hN : t.val < 7 := t.isLt
  have y0 : (y 0).val < 744 := (y 0).isLt
  have y1 : (y 1).val < 512 := (y 1).isLt
  show m ((c : Thread nD τ).loc main_arg0) (((cfg0.win 0).blk t).view.emb y) = _
  unfold colBlk at2
  refine congrArg _ (funext fun a => Fin.ext ?_)
  match a with
  | ⟨0, _⟩ => exact (show _ = win0_0.index t 0 * 744 + 1 * (y 0).val from rfl).trans (show _ = (y 0).val % 744 by rw [h.1]; omega)
  | ⟨1, _⟩ => exact (show _ = win0_0.index t 1 * 512 + 1 * (y 1).val from rfl).trans (show _ = (512 * t.val + (y 1).val) % 3584 by rw [h.2]; omega)

/-- Input 1's block at point `t`: the columns of point `t` of the second codes. -/
theorem iblk_1 (c : Dev nD) (t : Fin cfg0.N) : iblk m c 1 t = colBlk (m ((c : Thread nD τ).loc main_arg1)) t.val := by
  funext y
  obtain ⟨-, h, -⟩ := index_in t
  have hN : t.val < 7 := t.isLt
  have y0 : (y 0).val < 744 := (y 0).isLt
  have y1 : (y 1).val < 512 := (y 1).isLt
  show m ((c : Thread nD τ).loc main_arg1) (((cfg0.win 1).blk t).view.emb y) = _
  unfold colBlk at2
  refine congrArg _ (funext fun a => Fin.ext ?_)
  match a with
  | ⟨0, _⟩ => exact (show _ = win0_1.index t 0 * 744 + 1 * (y 0).val from rfl).trans (show _ = (y 0).val % 744 by rw [h.1]; omega)
  | ⟨1, _⟩ => exact (show _ = win0_1.index t 1 * 512 + 1 * (y 1).val from rfl).trans (show _ = (512 * t.val + (y 1).val) % 3584 by rw [h.2]; omega)

/-- Input 2's block at point `t`: the columns of point `t` of the weights. -/
theorem iblk_2 (c : Dev nD) (t : Fin cfg0.N) : iblk m c 2 t = colBlk (m ((c : Thread nD τ).loc main_arg2)) t.val := by
  funext y
  obtain ⟨-, -, h, -⟩ := index_in t
  have hN : t.val < 7 := t.isLt
  have y0 : (y 0).val < 40 := (y 0).isLt
  have y1 : (y 1).val < 512 := (y 1).isLt
  show m ((c : Thread nD τ).loc main_arg2) (((cfg0.win 2).blk t).view.emb y) = _
  unfold colBlk at2
  refine congrArg _ (funext fun a => Fin.ext ?_)
  match a with
  | ⟨0, _⟩ => exact (show _ = win0_2.index t 0 * 40 + 1 * (y 0).val from rfl).trans (show _ = (y 0).val % 40 by rw [h.1]; omega)
  | ⟨1, _⟩ => exact (show _ = win0_2.index t 1 * 512 + 1 * (y 1).val from rfl).trans (show _ = (512 * t.val + (y 1).val) % 3584 by rw [h.2]; omega)

/-- Input 3's block at point `t`: the columns of point `t` of the linear weights. -/
theorem iblk_3 (c : Dev nD) (t : Fin cfg0.N) : iblk m c 3 t = colBlk (m ((c : Thread nD τ).loc main_arg3)) t.val := by
  funext y
  obtain ⟨-, -, -, h, -⟩ := index_in t
  have hN : t.val < 7 := t.isLt
  have y0 : (y 0).val < 40 := (y 0).isLt
  have y1 : (y 1).val < 512 := (y 1).isLt
  show m ((c : Thread nD τ).loc main_arg3) (((cfg0.win 3).blk t).view.emb y) = _
  unfold colBlk at2
  refine congrArg _ (funext fun a => Fin.ext ?_)
  match a with
  | ⟨0, _⟩ => exact (show _ = win0_3.index t 0 * 40 + 1 * (y 0).val from rfl).trans (show _ = (y 0).val % 40 by rw [h.1]; omega)
  | ⟨1, _⟩ => exact (show _ = win0_3.index t 1 * 512 + 1 * (y 1).val from rfl).trans (show _ = (512 * t.val + (y 1).val) % 3584 by rw [h.2]; omega)

/-- The bias's block at every point: the bias. -/
theorem iblk_4 (c : Dev nD) (t : Fin cfg0.N) : iblk m c 4 t = m ((c : Thread nD τ).loc main_arg4) := by
  funext y
  show m ((c : Thread nD τ).loc main_arg4) (((cfg0.win 4).blk t).view.emb y) = _
  refine congrArg _ (funext fun a => ?_)
  match a with
  | ⟨0, _⟩ => exact Subsingleton.elim (α := Fin 1) _ _

/-! ## The results' arrays -/

/-- What point `t` writes back to the pair result is its block of `pairAll`. -/
theorem flushed_pair (c : Dev nD) (t : Fin cfg0.N) : (dats m 0 c).flushed 5 t
    = ((cfg0.win 5).blk t).view.read (Elt F) (pairAll (m ((c : Thread nD τ).loc main_arg0)) (m ((c : Thread nD τ).loc main_arg1)) (m ((c : Thread nD τ).loc main_arg2))) := by
  obtain ⟨h, -⟩ := index_out t
  show (cfg0.win 5).cut (grid0.coords t) ((dats m 0 c).after 5 t) = _
  rw [after0_5, iblk_0, iblk_1, iblk_2]
  funext y
  have y0 : (y 0).val < 1 := (y 0).isLt
  have e0 : (((cfg0.win 5).blk t).view.emb y 0).val = t.val :=
    (show _ = win0_5.index t 0 * 1 + 1 * (y 0).val from rfl).trans (by rw [h.1]; omega)
  have e1 : (((cfg0.win 5).blk t).view.emb y 1).val = (y 1).val :=
    (show _ = win0_5.index t 1 * 741 + 1 * (y 1).val from rfl).trans (by rw [h.2.1]; omega)
  have e2 : (((cfg0.win 5).blk t).view.emb y 2).val = (y 2).val :=
    (show _ = win0_5.index t 2 * 512 + 1 * (y 2).val from rfl).trans (by rw [h.2.2]; omega)
  show _ = pairAll (m ((c : Thread nD τ).loc main_arg0)) (m ((c : Thread nD τ).loc main_arg1)) (m ((c : Thread nD τ).loc main_arg2)) (((cfg0.win 5).blk t).view.emb y)
  unfold pairAll
  rw [e0]
  refine congrArg _ (funext fun a => Fin.ext ?_)
  match a with
  | ⟨0, _⟩ => exact (show (y 0).val = 0 by omega)
  | ⟨1, _⟩ => exact e1.symm
  | ⟨2, _⟩ => exact e2.symm

/-- Every entry of the pair result is in the block of the grid point its page names. -/
theorem cover_pair (i : S7x741x512.Idx) : ∃ t : Fin cfg0.N, (cfg0.win 5).flush t = true ∧ i ∈ ((cfg0.win 5).blk t).view.set := by
  have h0 : (i 0).val < 7 := (i 0).isLt
  have h1 : (i 1).val < 741 := (i 1).isLt
  have h2 : (i 2).val < 512 := (i 2).isLt
  have hN : cfg0.N = 7 := rfl
  obtain ⟨h, -⟩ := index_out ⟨(i 0).val, h0⟩
  refine ⟨⟨(i 0).val, by omega⟩, flush0_5 _, ?_⟩
  show i ∈ ((View.whole main_v0_0).slice (win0_5.rect ⟨(i 0).val, h0⟩)).set
  rw [View.set_slice_whole, Rect.mem_set_unit]
  intro a
  match a with
  | ⟨0, _⟩ => exact show win0_5.index ⟨(i 0).val, h0⟩ 0 * 1 ≤ (i 0).val ∧ (i 0).val < win0_5.index ⟨(i 0).val, h0⟩ 0 * 1 + 1 by rw [h.1]; exact ⟨(Nat.mul_one _).le, show (i 0).val < (i 0).val * 1 + 1 by omega⟩
  | ⟨1, _⟩ => exact show win0_5.index ⟨(i 0).val, h0⟩ 1 * 741 ≤ (i 1).val ∧ (i 1).val < win0_5.index ⟨(i 0).val, h0⟩ 1 * 741 + 741 by rw [h.2.1]; omega
  | ⟨2, _⟩ => exact show win0_5.index ⟨(i 0).val, h0⟩ 2 * 512 ≤ (i 2).val ∧ (i 2).val < win0_5.index ⟨(i 0).val, h0⟩ 2 * 512 + 512 by rw [h.2.2]; omega

/-- So the pair result ends at `pairAll` of the arguments. -/
theorem final_pair (c : Dev nD) : (dats m 0 c).arrAt 5 cfg0.N = pairAll (m ((c : Thread nD τ).loc main_arg0)) (m ((c : Thread nD τ).loc main_arg1)) (m ((c : Thread nD τ).loc main_arg2)) :=
  (dats m 0 c).arrAt_eq_of_cover 5 _ (fun t _ => flushed_pair m c t) cover_pair

/-- What point `t` writes back to the logit result is its block of `logitAll`. -/
theorem flushed_logit (c : Dev nD) (t : Fin cfg0.N) : (dats m 0 c).flushed 6 t
    = ((cfg0.win 6).blk t).view.read (Elt F) (logitAll (m ((c : Thread nD τ).loc main_arg0)) (m ((c : Thread nD τ).loc main_arg1)) (m ((c : Thread nD τ).loc main_arg2))
      (m ((c : Thread nD τ).loc main_arg3)) (m ((c : Thread nD τ).loc main_arg4))) := by
  obtain ⟨-, h⟩ := index_out t
  show (cfg0.win 6).cut (grid0.coords t) ((dats m 0 c).after 6 t) = _
  rw [after0_6, iblk_0, iblk_1, iblk_2, iblk_3, iblk_4]
  funext y
  have y0 : (y 0).val < 1 := (y 0).isLt
  have e0 : (((cfg0.win 6).blk t).view.emb y 0).val = t.val :=
    (show _ = win0_6.index t 0 * 1 + 1 * (y 0).val from rfl).trans (by rw [h.1]; omega)
  have e1 : (((cfg0.win 6).blk t).view.emb y 1).val = (y 1).val :=
    (show _ = win0_6.index t 1 * 1 + 1 * (y 1).val from rfl).trans (by rw [h.2.1]; omega)
  have e2 : (((cfg0.win 6).blk t).view.emb y 2).val = (y 2).val :=
    (show _ = win0_6.index t 2 * 512 + 1 * (y 2).val from rfl).trans (by rw [h.2.2]; omega)
  show _ = logitAll (m ((c : Thread nD τ).loc main_arg0)) (m ((c : Thread nD τ).loc main_arg1)) (m ((c : Thread nD τ).loc main_arg2))
      (m ((c : Thread nD τ).loc main_arg3)) (m ((c : Thread nD τ).loc main_arg4)) (((cfg0.win 6).blk t).view.emb y)
  unfold logitAll
  rw [e0]
  refine congrArg _ (funext fun a => Fin.ext ?_)
  match a with
  | ⟨0, _⟩ => exact (show (y 0).val = 0 by omega)
  | ⟨1, _⟩ => exact (show (y 1).val = 0 by have y1 : (y 1).val < 1 := (y 1).isLt; omega)
  | ⟨2, _⟩ => exact e2.symm

/-- Every entry of the logit result is in the block of the grid point its page names. -/
theorem cover_logit (i : S7x1x512.Idx) : ∃ t : Fin cfg0.N, (cfg0.win 6).flush t = true ∧ i ∈ ((cfg0.win 6).blk t).view.set := by
  have h0 : (i 0).val < 7 := (i 0).isLt
  have h1 : (i 1).val < 1 := (i 1).isLt
  have h2 : (i 2).val < 512 := (i 2).isLt
  have hN : cfg0.N = 7 := rfl
  obtain ⟨-, h⟩ := index_out ⟨(i 0).val, h0⟩
  refine ⟨⟨(i 0).val, by omega⟩, flush0_6 _, ?_⟩
  show i ∈ ((View.whole main_v0_1).slice (win0_6.rect ⟨(i 0).val, h0⟩)).set
  rw [View.set_slice_whole, Rect.mem_set_unit]
  intro a
  match a with
  | ⟨0, _⟩ => exact show win0_6.index ⟨(i 0).val, h0⟩ 0 * 1 ≤ (i 0).val ∧ (i 0).val < win0_6.index ⟨(i 0).val, h0⟩ 0 * 1 + 1 by rw [h.1]; exact ⟨(Nat.mul_one _).le, show (i 0).val < (i 0).val * 1 + 1 by omega⟩
  | ⟨1, _⟩ => exact show win0_6.index ⟨(i 0).val, h0⟩ 1 * 1 ≤ (i 1).val ∧ (i 1).val < win0_6.index ⟨(i 0).val, h0⟩ 1 * 1 + 1 by rw [h.2.1]; omega
  | ⟨2, _⟩ => exact show win0_6.index ⟨(i 0).val, h0⟩ 2 * 512 ≤ (i 2).val ∧ (i 2).val < win0_6.index ⟨(i 0).val, h0⟩ 2 * 512 + 512 by rw [h.2.2]; omega

/-- So the logit result ends at `logitAll` of the arguments. -/
theorem final_logit (c : Dev nD) : (dats m 0 c).arrAt 6 cfg0.N = logitAll (m ((c : Thread nD τ).loc main_arg0)) (m ((c : Thread nD τ).loc main_arg1)) (m ((c : Thread nD τ).loc main_arg2))
      (m ((c : Thread nD τ).loc main_arg3)) (m ((c : Thread nD τ).loc main_arg4)) :=
  (dats m 0 c).arrAt_eq_of_cover 6 _ (fun t _ => flushed_logit m c t) cover_logit

/-- THE RUN, read: every weakly fair execution ends with the two results at their formulas of the arguments and the arguments unchanged. -/
theorem run : θ_run defs (onTc (τ := τ) (main (F := F))) ⟨m, fun _ => 0, ρ⟩ fun r => ∀ c : Dev nD,
      r.2.mem ((c : Thread nD τ).loc main_v0_0) = pairAll (m ((c : Thread nD τ).loc main_arg0)) (m ((c : Thread nD τ).loc main_arg1))
        (m ((c : Thread nD τ).loc main_arg2))
      ∧ r.2.mem ((c : Thread nD τ).loc main_v0_1) = logitAll (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (final_pair m c), ((h c).1 6).trans (final_logit m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Score

end
-- ==== Proof.Nibbles.lean ====
/- The packed dot product. The kernel multiplies two signed nibbles of a word by two of another in one multiplication and keeps the wanted
   half of the sum; here that half is shown to be the sum of the eight products of signed nibbles, for every pair of words, and the
   byte-by-byte sum of the reference is shown to be the same. -/
module

public import proofs.«01_k».proof.Proof.Spec
public import Mathlib.Tactic.Ring

@[expose] public section

set_option maxRecDepth 16384

noncomputable section

namespace Cert.KernelIdeal.Score

/-- Nibble `i` of a word, least significant first. -/
def nb (p : BitVec 32) (i : ℕ) : BitVec 4 := p.extractLsb' (4 * i) 4

/-- The dot product of two words' eight signed nibbles. -/
def dotZ (p q : BitVec 32) : ℤ :=
  (nb p 0).toInt * (nb q 0).toInt + (nb p 1).toInt * (nb q 1).toInt + ((nb p 2).toInt * (nb q 2).toInt + (nb p 3).toInt * (nb q 3).toInt)
    + ((nb p 4).toInt * (nb q 4).toInt + (nb p 5).toInt * (nb q 5).toInt) + ((nb p 6).toInt * (nb q 6).toInt + (nb p 7).toInt * (nb q 7).toInt)

/-! ## Two nibbles in one word -/

/-- The word whose nibbles at bits 0 and 16 are `x` and `y`. -/
def twoNib (x y : BitVec 4) : BitVec 32 := x.setWidth 32 ||| (y.setWidth 32 <<< 16)

/-- The mask keeps the two nibbles at bits 0 and 16. -/
theorem and_mask (v : BitVec 32) : v &&& 983055#32 = twoNib (v.extractLsb' 0 4) (v.extractLsb' 16 4) := by
  apply BitVec.eq_of_getLsbD_eq
  intro i hi
  unfold twoNib
  interval_cases i <;> simp <;> rfl

/-- Two offset nibbles, less 8 each, are two signed nibbles: the number of the low one and 65536 times that of the high one. -/
theorem twoNib_sub : ∀ x y : BitVec 4, twoNib (x ^^^ 8#4) (y ^^^ 8#4) - 524296#32 = BitVec.ofInt 32 (x.toInt + 65536 * y.toInt) := by
  decide +kernel

/-- `pairNib` of a word whose nibbles at bits 0 and 16 are `x` and `y` with their top bits flipped. -/
theorem pairNib_eq (v : BitVec 32) (x y : BitVec 4) (h0 : v.extractLsb' 0 4 = x ^^^ 8#4) (h1 : v.extractLsb' 16 4 = y ^^^ 8#4) :
    pairNib v = BitVec.ofInt 32 (x.toInt + 65536 * y.toInt) := by
  unfold pairNib
  rw [and_mask, h0, h1, twoNib_sub]

/-- The first operand's nibbles `j` and `j + 4`. -/
theorem pairNib_left (p : BitVec 32) (j : ℕ) (hj : j < 4) :
    pairNib ((p ^^^ 2290649224#32) >>> (4 * j)) = BitVec.ofInt 32 ((nb p j).toInt + 65536 * (nb p (j + 4)).toInt) := by
  apply pairNib_eq <;> apply BitVec.eq_of_getLsbD_eq <;> intro i hi <;> unfold nb <;> interval_cases j <;> interval_cases i <;> simp

/-- The second operand's nibbles, its halves exchanged. -/
theorem pairNib_right (q : BitVec 32) (j : ℕ) (hj : j < 4) :
    pairNib (((q ^^^ 2290649224#32) <<< 16 ||| (q ^^^ 2290649224#32) >>> 16) >>> (4 * j))
      = BitVec.ofInt 32 ((nb q (j + 4)).toInt + 65536 * (nb q j).toInt) := by
  apply pairNib_eq <;> apply BitVec.eq_of_getLsbD_eq <;> intro i hi <;> unfold nb <;> interval_cases j <;> interval_cases i <;> simp

/-! ## The upper half of the sum -/

/-- Signed nibbles' products are at most 64 in size. -/
theorem nib_mul_bound : ∀ x y : BitVec 4, -64 ≤ x.toInt * y.toInt ∧ x.toInt * y.toInt ≤ 64 := by
  decide +kernel

/-- The upper half of `L + 65536 D + 32768` is `D` when both are small. -/
theorem upper_half (L D : ℤ) (hL : -32768 ≤ L ∧ L < 32768) (hD : -32768 ≤ D ∧ D < 32768) (w : BitVec 32)
    (hw : w = BitVec.ofInt 32 (L + 65536 * D + 32768)) : w.sshiftRight 16 = BitVec.ofInt 32 D := by
  subst hw
  apply BitVec.eq_of_toInt_eq
  rw [BitVec.toInt_sshiftRight, BitVec.toInt_ofInt, BitVec.toInt_ofInt, Int.shiftRight_eq_div_pow]
  rw [Int.bmod_eq_of_le (by omega) (by omega), Int.bmod_eq_of_le (by omega) (by omega)]
  omega

/-- THE KERNEL'S DOT PRODUCT is the sum of the eight products of signed nibbles. -/
theorem dotW_eq (p q : BitVec 32) : dotW p q = BitVec.ofInt 32 (dotZ p q) := by
  have a0 : (p ^^^ 2290649224#32) = (p ^^^ 2290649224#32) >>> (4 * 0) := rfl
  have b0 : ((q ^^^ 2290649224#32) <<< 16 ||| (q ^^^ 2290649224#32) >>> 16)
    = ((q ^^^ 2290649224#32) <<< 16 ||| (q ^^^ 2290649224#32) >>> 16) >>> (4 * 0) := rfl
  have l0 := pairNib_left p 0 (by decide)
  have l1 := pairNib_left p 1 (by decide)
  have l2 := pairNib_left p 2 (by decide)
  have l3 := pairNib_left p 3 (by decide)
  have r0 := pairNib_right q 0 (by decide)
  have r1 := pairNib_right q 1 (by decide)
  have r2 := pairNib_right q 2 (by decide)
  have r3 := pairNib_right q 3 (by decide)
  simp only [Nat.mul_zero, BitVec.ushiftRight_zero, Nat.mul_one, Nat.zero_add, Nat.reduceMul, Nat.reduceAdd] at l0 l1 l2 l3 r0 r1 r2 r3
  unfold dotW
  simp only []
  rw [l0, l1, l2, l3, r0, r1, r2, r3]
  have c0 := nib_mul_bound (nb p 0) (nb q 4)
  have c1 := nib_mul_bound (nb p 1) (nb q 5)
  have c2 := nib_mul_bound (nb p 2) (nb q 6)
  have c3 := nib_mul_bound (nb p 3) (nb q 7)
  have d0 := nib_mul_bound (nb p 0) (nb q 0)
  have d1 := nib_mul_bound (nb p 1) (nb q 1)
  have d2 := nib_mul_bound (nb p 2) (nb q 2)
  have d3 := nib_mul_bound (nb p 3) (nb q 3)
  have d4 := nib_mul_bound (nb p 4) (nb q 4)
  have d5 := nib_mul_bound (nb p 5) (nb q 5)
  have d6 := nib_mul_bound (nb p 6) (nb q 6)
  have d7 := nib_mul_bound (nb p 7) (nb q 7)
  refine upper_half ((nb p 0).toInt * (nb q 4).toInt + (nb p 1).toInt * (nb q 5).toInt + (nb p 2).toInt * (nb q 6).toInt
    + (nb p 3).toInt * (nb q 7).toInt) (dotZ p q) (by constructor <;> omega) (by unfold dotZ; constructor <;> omega) _ ?_
  have e : (32768#32) = BitVec.ofInt 32 32768 := by decide
  rw [e]
  simp only [← BitVec.ofInt_mul, ← BitVec.ofInt_add]
  apply BitVec.eq_of_toInt_eq
  rw [BitVec.toInt_ofInt, BitVec.toInt_ofInt]
  have key : (nb p 0).toInt * (nb q 4).toInt + (nb p 1).toInt * (nb q 5).toInt + (nb p 2).toInt * (nb q 6).toInt
      + (nb p 3).toInt * (nb q 7).toInt + 65536 * dotZ p q + 32768
      + ((2 ^ 32 : ℕ) : ℤ) * ((nb p 4).toInt * (nb q 0).toInt + (nb p 5).toInt * (nb q 1).toInt + (nb p 6).toInt * (nb q 2).toInt
          + (nb p 7).toInt * (nb q 3).toInt)
    = ((nb p 0).toInt + 65536 * (nb p 4).toInt) * ((nb q 4).toInt + 65536 * (nb q 0).toInt)
      + ((nb p 1).toInt + 65536 * (nb p 5).toInt) * ((nb q 5).toInt + 65536 * (nb q 1).toInt)
      + ((nb p 2).toInt + 65536 * (nb p 6).toInt) * ((nb q 6).toInt + 65536 * (nb q 2).toInt)
      + ((nb p 3).toInt + 65536 * (nb p 7).toInt) * ((nb q 7).toInt + 65536 * (nb q 3).toInt) + 32768 := by
    unfold dotZ; push_cast; ring
  refine (congrArg (Int.bmod · (2 ^ 32)) key.symm).trans ?_
  simp only [Int.bmod_def, Int.add_mul_emod_self_left]

/-! ## The bytes of the reference -/

/-- A nibble read as a signed number: 16 less when it is 8 or more. -/
def sgnNib (n : BitVec 32) : BitVec 32 := if 8 ≤ n.toInt then n - 16#32 else n

/-- Byte `k` of a word. -/
def byteW (p : BitVec 32) (k : ℕ) : BitVec 32 := p.sshiftRight (8 * k) &&& 255#32

/-- The two products of byte `k`. -/
def byteDot (p q : BitVec 32) (k : ℕ) : BitVec 32 :=
  sgnNib (byteW p k &&& 15#32) * sgnNib (byteW q k &&& 15#32)
    + sgnNib ((byteW p k).sshiftRight 4) * sgnNib ((byteW q k).sshiftRight 4)

/-- The number of a nibble. -/
theorem sgnNib_setWidth : ∀ x : BitVec 4, sgnNib (x.setWidth 32) = BitVec.ofInt 32 x.toInt := by
  decide +kernel

/-- The low nibble of byte `k`. -/
theorem byteW_lo (p : BitVec 32) (k : ℕ) (hk : k < 4) : byteW p k &&& 15#32 = (nb p (2 * k)).setWidth 32 := by
  apply BitVec.eq_of_getLsbD_eq
  intro i hi
  unfold byteW nb
  interval_cases k <;> interval_cases i <;> simp [BitVec.getElem_sshiftRight]

/-- The high nibble of byte `k`. -/
theorem byteW_hi (p : BitVec 32) (k : ℕ) (hk : k < 4) : (byteW p k).sshiftRight 4 = (nb p (2 * k + 1)).setWidth 32 := by
  apply BitVec.eq_of_getLsbD_eq
  intro i hi
  unfold byteW nb
  interval_cases k <;> interval_cases i <;> simp [BitVec.getElem_sshiftRight, BitVec.msb_eq_getLsbD_last]

/-- The products of byte `k` are those of its two nibbles. -/
theorem byteDot_eq (p q : BitVec 32) (k : ℕ) (hk : k < 4) :
    byteDot p q k = BitVec.ofInt 32 ((nb p (2 * k)).toInt * (nb q (2 * k)).toInt + (nb p (2 * k + 1)).toInt * (nb q (2 * k + 1)).toInt) := by
  unfold byteDot
  rw [byteW_lo p k hk, byteW_lo q k hk, byteW_hi p k hk, byteW_hi q k hk, sgnNib_setWidth, sgnNib_setWidth, sgnNib_setWidth, sgnNib_setWidth,
    BitVec.ofInt_add, BitVec.ofInt_mul, BitVec.ofInt_mul]

/-- THE REFERENCE'S DOT PRODUCT, byte by byte, is the kernel's. -/
theorem byteDots_eq (p q : BitVec 32) : byteDot p q 0 + byteDot p q 1 + byteDot p q 2 + byteDot p q 3 = dotW p q := by
  rw [dotW_eq, byteDot_eq p q 0 (by decide), byteDot_eq p q 1 (by decide), byteDot_eq p q 2 (by decide), byteDot_eq p q 3 (by decide)]
  simp only [← BitVec.ofInt_add]
  rfl

end Cert.KernelIdeal.Score

end
-- ==== Proof.RefValue.lean ====
/- The reference's two results as formulas of its arguments: its operations grouped under names, and each read at an index. -/
module

public import proofs.«01_k».proof.Proof.Gen.ReferenceIdeal.Run
public import proofs.«01_k».proof.Proof.Nibbles
public import Idealize.ShloMosaic.Lib.Pointwise
public import Idealize.ShloMosaic.Lib.Routing.Ops

@[expose] public section

set_option maxRecDepth 16384

noncomputable section

namespace Cert.ReferenceIdeal.Formula

open Cert.ReferenceIdeal Cert.ReferenceIdeal.Gen Idealize.ShloMosaic Idealize.ShloMosaic.TcCoe Idealize.SL.Sem
open Cert.KernelIdeal.Score (at2 fieldA fieldB nb sgnNib byteW byteDot byteDots_eq dotW)

variable {F : FTy → Type} [FloatOps F]

/-! ## The operations, grouped -/

/-- A constant word at every place of the byte arrays. -/
def splat (w : BitVec 32) : IVec S741x4x3584 32 := broadcastInDim S741x4x3584 ![] bcast_S_S741x4x3584 (constantI S_ 32 w)

/-- The four bytes of every word of the first 741 rows. -/
def bytesT (p : IVec S744x3584 32) : IVec S741x4x3584 32 :=
  andi (Host.shrsi (broadcastInDim S741x4x3584 ![0, 1, 2] bcast_S741x1x3584_S741x4x3584_0_1_2
      (broadcastInDim S741x1x3584 ![0, 2] bcast_S741x3584_S741x1x3584_0_2
        (extractStridedSlice S741x3584 ![0, 0] p slices_S744x3584_S741x3584_0_0)))
    (broadcastInDim S741x4x3584 ![0, 1, 2] bcast_S1x4x1_S741x4x3584_0_1_2
      (broadcastInDim S1x4x1 ![1] bcast_S4_S1x4x1_1 ((fun i => lit0 (S4.rowMajor i)))))) (splat 255#32)

/-- Nibbles read as signed numbers. -/
def sgnT (x : IVec S741x4x3584 32) : IVec S741x4x3584 32 := select (cmpi .sge x (splat 8#32)) (subi x (splat 16#32)) x

/-- The dot products of the two arrays of words. -/
def dotT (p q : IVec S744x3584 32) : IVec S741x3584 32 :=
  Host.reduce IntOp.addi
    (addi (muli (sgnT (andi (bytesT p) (splat 15#32))) (sgnT (andi (bytesT q) (splat 15#32))))
      (muli (sgnT (Host.shrsi (bytesT p) (splat 4#32))) (sgnT (Host.shrsi (bytesT q) (splat 4#32)))))
    (constantI S_ 32 0#32) reducesTo_S741x4x3584_S741x3584_d1 h_S_

/-- The weights' rows that a table of 741 fields names. -/
def rowsT (tbl : Fin 741 → BitVec 32) (w : IVec S40x3584 32) : FVec F S741x3584 .f32 :=
  Host.gather gather_S40x3584_S741x1_S741x3584_1_0_n_n_0_1_13584 (bitcastToFloat (F := F) .f32 w)
    (broadcastInDim S741x1 ![0] bcast_S741_S741x1_0 (select (constantI S741 1 0#1)
      (addi ((fun i => tbl (S741.rowMajor i))) (broadcastInDim S741 ![] bcast_S_S741 (constantI S_ 32 40#32)))
      ((fun i => tbl (S741.rowMajor i)))))

/-- The pair terms, a row to a pair of fields. -/
def pairT (p q : IVec S744x3584 32) (w : IVec S40x3584 32) : FVec F S741x3584 .f32 :=
  mulf (mulf (sitofp .f32 (dotT p q)) (rowsT lit1 w)) (rowsT lit2 w)

/-- The pair result's term. -/
def pairOut (p q : IVec S744x3584 32) (w : IVec S40x3584 32) : FVec F S7x741x512 .f32 :=
  transpose S7x741x512 [1, 0, 2] (shapeCast S741x7x512 (pairT (F := F) p q w) shapeCasts_S741x3584_S741x7x512)
    transposes_S741x7x512_S7x741x512_1_0_2

/-- The logit result's term. -/
def logitOut (p q : IVec S744x3584 32) (w x : IVec S40x3584 32) (b : FVec F S1 .f32) : FVec F S7x1x512 .f32 :=
  shapeCast S7x1x512 (addf (addf (broadcastInDim S3584 ![] bcast_S_S3584 (shapeCast S_ b shapeCasts_S1_S_))
      (Host.reduceAdd (bitcastToFloat (F := F) .f32 (extractStridedSlice S39x3584 ![0, 0] x slices_S40x3584_S39x3584_0_0))
        (constant S_ .f32 0x00000000#32) reducesTo_S39x3584_S3584_d0 h_S_))
    (Host.reduceAdd (pairT (F := F) p q w) (constant S_ .f32 0x00000000#32) reducesTo_S741x3584_S3584_d0 h_S_)) shapeCasts_S3584_S7x1x512

variable (m : (ℓ : Loc nD τ sig) → Buf (Elt F) ℓ)

/-- The run's pair result is the grouped term. -/
theorem res_pair (c : Dev nD) : Value.res_main_v62 m c = pairOut (m ((c.tc : Thread nD τ).loc main_arg0)) (m ((c.tc : Thread nD τ).loc main_arg1))
    (m ((c.tc : Thread nD τ).loc main_arg2)) := rfl

/-- The run's logit result is the grouped term. -/
theorem res_logit (c : Dev nD) : Value.res_main_v71 m c = logitOut (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := rfl

/-! ## Read at an index -/

theorem splat_apply (w : BitVec 32) (i : S741x4x3584.Idx) : splat w i = w := rfl

/-- The shift of byte `k`. -/
theorem shift_lit : ∀ k : Fin 4, lit0 k = BitVec.ofNat 32 (8 * k.val) := by decide

/-- An entry by numbers that are in range. -/
theorem at2_of {α : Type} {a b : ℕ} [NeZero a] [NeZero b] (x : (⟨2, ![a, b]⟩ : Shape).Idx → α) (r s : ℕ) (hr : r < a) (hs : s < b) :
    x (ix2 ⟨r, hr⟩ ⟨s, hs⟩) = at2 x r s := by
  unfold at2
  rw [ix2_eq_valueIdx]
  exact congrArg x (congrArg₂ ValueIdx.ix2 (Fin.ext (Nat.mod_eq_of_lt hr).symm) (Fin.ext (Nat.mod_eq_of_lt hs).symm))

/-- Byte `k` of the word at row `r` and column `s`. -/
theorem bytesT_apply (p : IVec S744x3584 32) (r : Fin 741) (k : Fin 4) (s : Fin 3584) :
    bytesT p (ix3 r k s) = byteW (at2 p r.val s.val) k.val := by
  unfold bytesT
  pointwise [splat_apply]
  have e : lit0 (S4.rowMajor (ix1 k)) = BitVec.ofNat 32 (8 * k.val) := by fin_cases k <;> rfl
  rw [e]
  refine (congrArg (fun z => IntOp.andi (IntOp.shrsi ArithUnit.host z (BitVec.ofNat 32 (8 * k.val))) 255#32)
    (at2_of p r.val s.val _ s.isLt)).trans ?_
  fin_cases k <;> rfl

/-- A signed nibble. -/
theorem sgnT_apply (x : IVec S741x4x3584 32) (i : S741x4x3584.Idx) : sgnT x i = sgnNib (x i) := by
  unfold sgnT
  pointwise [splat_apply]
  show (if BitVec.ofBool ((8#32).sle (x i)) = 1#1 then x i - 16#32 else x i) = if 8 ≤ (x i).toInt then x i - 16#32 else x i
  have e : BitVec.ofBool ((8#32).sle (x i)) = 1#1 ↔ 8 ≤ (x i).toInt := by
    rw [BitVec.sle_eq_decide]
    show BitVec.ofBool (decide (8 ≤ (x i).toInt)) = 1#1 ↔ _
    by_cases h : 8 ≤ (x i).toInt
    · rw [decide_eq_true h]; exact iff_of_true rfl h
    · rw [decide_eq_false h]; exact iff_of_false (by decide) h
  simp only [e]

/-- The two products of byte `k` at row `r` and column `s`. -/
theorem prods_apply (p q : IVec S744x3584 32) (r : Fin 741) (k : Fin 4) (s : Fin 3584) :
    addi (muli (sgnT (andi (bytesT p) (splat 15#32))) (sgnT (andi (bytesT q) (splat 15#32))))
      (muli (sgnT (Host.shrsi (bytesT p) (splat 4#32))) (sgnT (Host.shrsi (bytesT q) (splat 4#32)))) (ix3 r k s)
      = byteDot (at2 p r.val s.val) (at2 q r.val s.val) k.val := by
  pointwise [sgnT_apply, splat_apply, bytesT_apply]
  rfl

/-- The dot product at row `r` and column `s`. -/
theorem dotT_apply (p q : IVec S744x3584 32) (r : Fin 741) (s : Fin 3584) :
    dotT p q (ix2 r s) = dotW (at2 p r.val s.val) (at2 q r.val s.val) := by
  rw [← byteDots_eq]
  unfold dotT
  pointwise [sgnT_apply, splat_apply, bytesT_apply]
  have e : ∀ g : Fin 4 → BitVec 32, Finset.fold IntOp.addi (0#32) g Finset.univ = g 0 + g 1 + g 2 + g 3 := by
    intro g
    have h : Finset.fold IntOp.addi (0#32) g Finset.univ = g 0 + (g 1 + (g 2 + (g 3 + 0#32))) := rfl
    rw [h, BitVec.add_zero, BitVec.add_assoc, BitVec.add_assoc]
  exact e _

/-- The first table of fields. -/
theorem lit1_eq : ∀ r : Fin 741, lit1 r = BitVec.ofNat 32 (fieldA r.val) := by decide +kernel

/-- The second table of fields. -/
theorem lit2_eq : ∀ r : Fin 741, lit2 r = BitVec.ofNat 32 (fieldB r.val) := by decide +kernel

/-- Both tables name fields. -/
theorem fields_lt : ∀ r : Fin 741, fieldA r.val < 40 ∧ fieldB r.val < 40 := by decide +kernel

/-- A row of weights that a table names. -/
theorem rowsT_apply (tbl : Fin 741 → BitVec 32) (w : IVec S40x3584 32) (r : Fin 741) (s : Fin 3584) (f : ℕ) (hf : f < 40)
    (ht : tbl r = BitVec.ofNat 32 f) : rowsT (F := F) tbl w (ix2 r s) = FloatOps.ofBits .f32 (at2 w f s.val) := by
  unfold rowsT
  rw [ix2_eq_valueIdx]
  refine (Routing.gather_row gather_S40x3584_S741x1_S741x3584_1_0_n_n_0_1_13584 rfl rfl rfl rfl rfl _ _ r s ⟨f, hf⟩ ?_ (by decide)).trans ?_
  · rw [← ix2_eq_valueIdx]
    pointwise []
    exact (congrArg tbl (Fin.ext (Shape.rowMajor_val_one _))).trans ht
  · rw [← ix2_eq_valueIdx]
    exact congrArg (FloatOps.ofBits .f32) (at2_of w f s.val hf s.isLt)

/-- A pair term at row `r` and column `s`. -/
theorem pairT_apply (p q : IVec S744x3584 32) (w : IVec S40x3584 32) (r : Fin 741) (s : Fin 3584) :
    pairT (F := F) p q w (ix2 r s) = FloatOps.mulf (FloatOps.mulf (FloatOps.sitofp .f32 (dotW (at2 p r.val s.val) (at2 q r.val s.val)))
      (FloatOps.ofBits .f32 (at2 w (fieldA r.val) s.val))) (FloatOps.ofBits .f32 (at2 w (fieldB r.val) s.val)) := by
  rw [← dotT_apply, ← rowsT_apply lit1 w r s _ (fields_lt r).1 (lit1_eq r), ← rowsT_apply lit2 w r s _ (fields_lt r).2 (lit2_eq r)]
  rfl

/-- The pair result at page `b`, row `r` and lane `s`. -/
theorem pairOut_apply (p q : IVec S744x3584 32) (w : IVec S40x3584 32) (b : Fin 7) (r : Fin 741) (s : Fin 512) :
    pairOut (F := F) p q w (ix3 b r s) = pairT (F := F) p q w (ix2 r ⟨512 * b.val + s.val, by omega⟩) := by
  unfold pairOut
  pointwise []
  exact congrArg (fun z => pairT p q w (ix2 r z)) (Fin.ext (congrArg (· + s.val) (Nat.mul_comm _ _)))

/-- The logit result at page `b` and lane `s`. -/
theorem logitOut_apply (p q : IVec S744x3584 32) (w x : IVec S40x3584 32) (c : FVec Ideal S1 .f32) (b : Fin 7) (s : Fin 512) :
    logitOut (F := Ideal) p q w x c (ix3 b (0 : Fin 1) s) = (c (ix1 (0 : Fin 1)) + ∑ f : Fin 39, Ideal.ofBits .f32 (at2 x f.val (512 * b.val + s.val)))
      + ∑ r : Fin 741, pairT (F := Ideal) p q w (ix2 r ⟨512 * b.val + s.val, by omega⟩) := by
  have hb : b.val * 512 + s.val = 512 * b.val + s.val := congrArg (· + s.val) (Nat.mul_comm _ _)
  unfold logitOut
  pointwise []
  refine congrArg₂ (· + ·) (congrArg₂ (· + ·) rfl (Finset.sum_congr rfl fun f _ => ?_)) (Finset.sum_congr rfl fun r _ => ?_)
  · refine congrArg (Ideal.ofBits .f32) ((at2_of x f.val (b.val * 512 + s.val) (by omega) (by omega)).trans ?_)
    rw [hb]
  · exact congrArg (fun z => pairT (F := Ideal) p q w (ix2 r z)) (Fin.ext hb)

end Cert.ReferenceIdeal.Formula

end
-- ==== Proof.Algebra.lean ====
/- The kernel's two results and the reference's are the same ideal values: each pair term is the same product in another order, and each logit
   the same sum, which the kernel adds up by groups of eight rows. -/
module

public import proofs.«01_k».proof.Proof.Value
public import proofs.«01_k».proof.Proof.RefValue

@[expose] public section

set_option maxRecDepth 16384

noncomputable section

namespace Cert.Algebra

open Idealize.ShloMosaic Idealize.ShloMosaic.TcCoe
open Cert.KernelIdeal Cert.KernelIdeal.Gen
open Cert.KernelIdeal.Score (at2 colBlk pairE prodW wgt pairBlk pairAll logitAll logitBlk logitChunk accE restE linE fieldA fieldB dotW)
open Cert.ReferenceIdeal.Formula (pairT pairT_apply pairOut pairOut_apply logitOut logitOut_apply fields_lt)

/-! ## Sums by groups -/

/-- A sum over the rows `8 i + s` with `i < k` and `s < 8`, taken sublane by sublane, is the sum over the first `8 k` rows. -/
theorem sum_groups (f : ℕ → EReal) (k : ℕ) :
    ∑ s : Fin 8, ∑ i ∈ Finset.range k, f (8 * i + s.val) = ∑ r ∈ Finset.range (8 * k), f r := by
  induction k with
  | zero => simp
  | succ k ih =>
    have h8 : ∑ r ∈ Finset.range (8 * (k + 1)), f r = (∑ r ∈ Finset.range (8 * k), f r) + ∑ s : Fin 8, f (8 * k + s.val) := by
      rw [show 8 * (k + 1) = 8 * k + 8 by omega, Finset.sum_range_add, Finset.sum_range (fun s => f (8 * k + s))]
    rw [h8, ← ih, ← Finset.sum_add_distrib]
    exact Finset.sum_congr rfl fun s _ => Finset.sum_range_succ _ k

/-- 92 groups of eight rows and the five rows after them are all 741 rows. -/
theorem sum_rows (f : ℕ → EReal) :
    (∑ s : Fin 8, ∑ i ∈ Finset.range 92, f (8 * i + s.val)) + ∑ s : Fin 5, f (736 + s.val) = ∑ r : Fin 741, f r.val := by
  have h5 : ∑ r ∈ Finset.range 741, f r = (∑ r ∈ Finset.range (8 * 92), f r) + ∑ s : Fin 5, f (736 + s.val) := by
    rw [show 741 = 8 * 92 + 5 by omega, Finset.sum_range_add, Finset.sum_range (fun s => f (8 * 92 + s))]
  rw [sum_groups, ← h5, Finset.sum_range]

/-! ## The pair result -/

/-- An entry of a block of columns is the entry of the array at that block's column. -/
theorem at2_colBlk {α : Type} {n : ℕ} [NeZero n] (x : (⟨2, ![n, 3584]⟩ : Shape).Idx → α) (t r s : ℕ) (hr : r < n) (hs : s < 512) :
    at2 (colBlk x t) r s = at2 x r (512 * t + s) := by
  show at2 x (r % n) (512 * t + s % 512) = _
  rw [Nat.mod_eq_of_lt hr, Nat.mod_eq_of_lt hs]

/-- A pair entry of a block of columns is the reference's pair term: the same factors in another order. -/
theorem pairE_colBlk (p q : Vec Ideal S744x3584 .i32) (w : Vec Ideal S40x3584 .i32) (t : Fin 7) (r : Fin 741) (s : Fin 512) :
    pairE (F := Ideal) (colBlk p t.val) (colBlk q t.val) (colBlk w t.val) r.val s.val
      = pairT (F := Ideal) p q w (ix2 r ⟨512 * t.val + s.val, by omega⟩) := by
  have hr : r.val < 744 := by omega
  rw [pairT_apply]
  unfold pairE prodW wgt
  rw [at2_colBlk p _ _ _ hr s.isLt, at2_colBlk q _ _ _ hr s.isLt, at2_colBlk w _ _ _ (fields_lt r).1 s.isLt,
    at2_colBlk w _ _ _ (fields_lt r).2 s.isLt]
  exact (congrArg (_ * · : EReal → EReal) (mul_comm (G := EReal) _ _)).trans (mul_assoc (G := EReal) _ _ _).symm

/-- An index of three coordinates is given by them. -/
theorem idx3 {n0 n1 n2 : ℕ} (i : (⟨3, ![n0, n1, n2]⟩ : Shape).Idx) : ∃ (a : Fin n0) (b : Fin n1) (c : Fin n2), i = ix3 a b c := by
  exact ⟨i 0, i 1, i 2, (ValueIdx.eq_ix3 i).trans (ix3_eq_valueIdx (n0 := n0) (n1 := n1) (n2 := n2) (i 0) (i 1) (i 2)).symm⟩

/-- The kernel's pair result is the reference's. -/
theorem pair_eq (p q : Vec Ideal S744x3584 .i32) (w : Vec Ideal S40x3584 .i32) : pairAll (F := Ideal) p q w = pairOut (F := Ideal) p q w := by
  funext i
  obtain ⟨b, r, s, rfl⟩ := idx3 (n0 := 7) (n1 := 741) (n2 := 512) i
  exact (pairE_colBlk p q w b r s).trans (pairOut_apply p q w b r s).symm

/-! ## The logit result -/

/-- The running sums are sums of pair entries. -/
theorem accE_eq (x0 x1 : Vec Ideal S744x512 .i32) (x2 : Vec Ideal S40x512 .i32) (c k : ℕ) (y : S8x128.Idx) :
    accE (F := Ideal) x0 x1 x2 c k y
      = ∑ i ∈ Finset.range k, pairE (F := Ideal) x0 x1 x2 (8 * i + (y 0).val) (128 * c + (y 1).val) := by
  induction k with
  | zero => exact Ideal.ofBits_zero_f32
  | succ k ih =>
    rw [Finset.sum_range_succ, ← ih]
    rfl

/-- A chunk's logit at lane `l`, is the sum of the pair entries of all 741 rows, the linear weights and the bias. -/
theorem logitChunk_eq (x0 x1 : Vec Ideal S744x512 .i32) (x2 x3 : Vec Ideal S40x512 .i32) (x4 : Vec Ideal S1 .f32) (q : ℕ) (l : Fin 128) :
    logitChunk (F := Ideal) x0 x1 x2 x3 x4 q (ix3 (0 : Fin 1) (0 : Fin 1) l)
      = ((∑ r : Fin 741, pairE (F := Ideal) x0 x1 x2 r.val (128 * q + l.val))
        + ∑ f : Fin 39, wgt (F := Ideal) x3 f.val (128 * q + l.val)) + x4 (ix1 (0 : Fin 1)) := by
  unfold logitChunk
  unfold k0_pay242
  pointwise []
  refine congrArg₂ (· + ·) (congrArg₂ (· + ·) ?_ rfl) rfl
  rw [← sum_rows (fun r => pairE (F := Ideal) x0 x1 x2 r (128 * q + l.val))]
  exact congrArg₂ (· + ·) (Finset.sum_congr rfl fun s _ => accE_eq x0 x1 x2 q 92 (ix2 s l)) rfl

/-- The kernel's logit result is the reference's: the same terms in another order. -/
theorem logit_eq (p q : Vec Ideal S744x3584 .i32) (w x : Vec Ideal S40x3584 .i32) (b : Vec Ideal S1 .f32) :
    logitAll (F := Ideal) p q w x b = logitOut (F := Ideal) p q w x b := by
  funext i
  obtain ⟨t, z, s, rfl⟩ := idx3 (n0 := 7) (n1 := 1) (n2 := 512) i
  obtain rfl : z = 0 := Subsingleton.elim _ _
  have hc : 128 * (s.val / 128) + (Fin.ofNat 128 s.val).val = s.val := Nat.div_add_mod _ _
  refine Eq.trans ?_ (logitOut_apply p q w x b t s).symm
  show logitChunk (F := Ideal) (colBlk p t.val) (colBlk q t.val) (colBlk w t.val) (colBlk x t.val) b (s.val / 128)
    (ValueIdx.ix3 (0 : Fin 1) (0 : Fin 1) (Fin.ofNat 128 s.val)) = _
  rw [← ix3_eq_valueIdx, logitChunk_eq, hc, add_comm, ← add_assoc, add_right_comm]
  refine congrArg₂ (· + ·) (congrArg (b (ix1 (0 : Fin 1)) + ·) (Finset.sum_congr rfl fun f _ => ?_)) (Finset.sum_congr rfl fun r _ => ?_)
  · exact congrArg (Ideal.ofBits .f32) (at2_colBlk x _ _ _ (by omega) s.isLt)
  · exact pairE_colBlk p q w t r s

end Cert.Algebra

end
-- ==== Proof.lean ====
/- The proof of the certificate: the kernel and its idealization run and leave their arguments as they were, so does the reference, and from
   equal arguments kernel and reference end with equal ideal results. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.Frame
public import proofs.«01_k».proof.Proof.Value
public import proofs.«01_k».proof.Proof.RefValue
public import proofs.«01_k».proof.Proof.Algebra
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments as they were and every semaphore at zero: it has none. -/
theorem frame_reference : Cert.quiescent_ReferenceIdeal (hReferenceIdeal := Cert.ReferenceIdeal.Gen.facts) := fun m g _ =>
  (θ_run Cert.ReferenceIdeal.defs _ _).mono (fun r h =>
    ⟨fun c => (h c).2.2, Idealize.ShloMosaic.sem_eq_zero_of_no_sems (by decide) r.2⟩)
    (Cert.ReferenceIdeal.Value.run (F := Ideal) m g)

/-- From equal arguments the kernel and the reference end with equal ideal results. -/
theorem algebraic : Cert.algebraic_KernelIdeal_ReferenceIdeal (hKernelIdeal := Cert.KernelIdeal.Gen.facts)
    (hReferenceIdeal := Cert.ReferenceIdeal.Gen.facts) := by
  intro m g m' g' _ ha
  refine ⟨_, _, Cert.KernelIdeal.Score.run (F := Ideal) m g, (θ_run Cert.ReferenceIdeal.defs _ _).mono (fun r h c => ?_)
    (Cert.ReferenceIdeal.Value.run (F := Ideal) m' g')⟩
  obtain ⟨a0, a1, a2, a3, a4⟩ := ha c
  refine ⟨(h c).1.trans ?_, (h c).2.1.trans ?_, (h c).2.2⟩
  · rw [Cert.ReferenceIdeal.Formula.res_pair, a0, a1, a2]
    exact (Cert.Algebra.pair_eq _ _ _).symm
  · rw [Cert.ReferenceIdeal.Formula.res_logit, a0, a1, a2, a3, a4]
    exact (Cert.Algebra.logit_eq _ _ _ _ _).symm

theorem claim : Cert.Claim := ⟨Cert.Kernel.Gen.facts, Cert.KernelIdeal.Gen.facts, Cert.ReferenceIdeal.Gen.facts,
  fun m g _ => Cert.Kernel.Score.frame m g, fun m g _ => Cert.KernelIdeal.Score.frame m g, frame_reference, trivial, algebraic⟩

end Cert.Proof

end
